-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x1x5120 : Shape := ⟨3, ![256, 1, 5120]⟩
abbrev S27648x2560 : Shape := ⟨2, ![27648, 2560]⟩
abbrev S27648x320 : Shape := ⟨2, ![27648, 320]⟩
abbrev S_ : Shape := ⟨0, ![]⟩
abbrev S256x2560x2 : Shape := ⟨3, ![256, 2560, 2]⟩
abbrev S256x2560x1 : Shape := ⟨3, ![256, 2560, 1]⟩
abbrev S256x2560 : Shape := ⟨2, ![256, 2560]⟩
abbrev S1x1 : Shape := ⟨2, ![1, 1]⟩
abbrev S256x27648 : Shape := ⟨2, ![256, 27648]⟩
abbrev S1024x2560 : Shape := ⟨2, ![1024, 2560]⟩
abbrev S1024x384 : Shape := ⟨2, ![1024, 384]⟩
abbrev S256x1024 : Shape := ⟨2, ![256, 1024]⟩
abbrev S1024x128 : Shape := ⟨2, ![1024, 128]⟩
abbrev S1024x128x1 : Shape := ⟨3, ![1024, 128, 1]⟩
abbrev S256x128 : Shape := ⟨2, ![256, 128]⟩

abbrev nBuf : Space → Nat
  | .hbm => 11
  | .vmem => 10
  | .smem => 1
  | _ => 0

abbrev bufTy : (tb : Table) → Fin (tcTables nBuf tb) → BufTy
  | .hbm, ⟨0, _⟩ => ⟨S256x1x5120, .bf16⟩
  | .hbm, ⟨1, _⟩ => ⟨S27648x2560, .i8⟩
  | .hbm, ⟨2, _⟩ => ⟨S27648x320, .fp8e4m3⟩
  | .hbm, ⟨3, _⟩ => ⟨S_, .f32⟩
  | .hbm, ⟨4, _⟩ => ⟨S256x2560x2, .bf16⟩
  | .hbm, ⟨5, _⟩ => ⟨S256x2560x1, .bf16⟩
  | .hbm, ⟨6, _⟩ => ⟨S256x2560, .bf16⟩
  | .hbm, ⟨7, _⟩ => ⟨S256x2560x1, .bf16⟩
  | .hbm, ⟨8, _⟩ => ⟨S256x2560, .bf16⟩
  | .hbm, ⟨9, _⟩ => ⟨S1x1, .f32⟩
  | .hbm, ⟨10, _⟩ => ⟨S256x27648, .bf16⟩
  | .local _ .vmem, ⟨0, _⟩ => ⟨S256x2560, .bf16⟩
  | .local _ .vmem, ⟨1, _⟩ => ⟨S256x2560, .bf16⟩
  | .local _ .vmem, ⟨2, _⟩ => ⟨S1024x2560, .i8⟩
  | .local _ .vmem, ⟨3, _⟩ => ⟨S1024x2560, .i8⟩
  | .local _ .vmem, ⟨4, _⟩ => ⟨S1024x384, .fp8e4m3⟩
  | .local _ .vmem, ⟨5, _⟩ => ⟨S1024x384, .fp8e4m3⟩
  | .local _ .vmem, ⟨6, _⟩ => ⟨S256x1024, .bf16⟩
  | .local _ .vmem, ⟨7, _⟩ => ⟨S256x1024, .bf16⟩
  | .local _ .vmem, ⟨8, _⟩ => ⟨S1024x2560, .bf16⟩
  | .local _ .vmem, ⟨9, _⟩ => ⟨S1024x2560, .bf16⟩
  | .local _ .smem, ⟨0, _⟩ => ⟨S1x1, .f32⟩
  | _, _ => ⟨S256x1x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_stg4_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![27], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x2560 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x2560 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2560 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x384 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .smem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S256x1x5120 : Shape := ⟨3, ![256, 1, 5120]⟩
abbrev S27648x2560 : Shape := ⟨2, ![27648, 2560]⟩
abbrev S27648x320 : Shape := ⟨2, ![27648, 320]⟩
abbrev S_ : Shape := ⟨0, ![]⟩
abbrev S27648x320x8 : Shape := ⟨3, ![27648, 320, 8]⟩
abbrev S27648x320x1 : Shape := ⟨3, ![27648, 320, 1]⟩
abbrev S256x320x8x2 : Shape := ⟨4, ![256, 320, 8, 2]⟩
abbrev S256x320x8x1 : Shape := ⟨4, ![256, 320, 8, 1]⟩
abbrev S256x320x8 : Shape := ⟨3, ![256, 320, 8]⟩
abbrev S256x27648 : Shape := ⟨2, ![256, 27648]⟩

abbrev nBuf : Space → Nat
  | .hbm => 89
  | .vmem => 2
  | .smem => 0
  | _ => 0

abbrev bufTy : (tb : Table) → Fin (tcTables nBuf tb) → BufTy
  | .hbm, ⟨0, _⟩ => ⟨S256x1x5120, .bf16⟩
  | .hbm, ⟨1, _⟩ => ⟨S27648x2560, .i8⟩
  | .hbm, ⟨2, _⟩ => ⟨S27648x320, .fp8e4m3⟩
  | .hbm, ⟨3, _⟩ => ⟨S_, .f32⟩
  | .hbm, ⟨4, _⟩ => ⟨S27648x320x8, .i8⟩
  | .hbm, ⟨5, _⟩ => ⟨S27648x320x8, .i32⟩
  | .hbm, ⟨6, _⟩ => ⟨S27648x320, .bf16⟩
  | .hbm, ⟨7, _⟩ => ⟨S27648x320x1, .bf16⟩
  | .hbm, ⟨8, _⟩ => ⟨S256x320x8x2, .bf16⟩
  | .hbm, ⟨9, _⟩ => ⟨S256x320x8x1, .bf16⟩
  | .hbm, ⟨10, _⟩ => ⟨S256x320x8, .bf16⟩
  | .hbm, ⟨11, _⟩ => ⟨S256x320x8x1, .bf16⟩
  | .hbm, ⟨12, _⟩ => ⟨S256x320x8, .bf16⟩
  | .hbm, ⟨13, _⟩ => ⟨S_, .i32⟩
  | .hbm, ⟨14, _⟩ => ⟨S27648x320x8, .i32⟩
  | .hbm, ⟨15, _⟩ => ⟨S27648x320x8, .i32⟩
  | .hbm, ⟨16, _⟩ => ⟨S_, .i32⟩
  | .hbm, ⟨17, _⟩ => ⟨S27648x320x8, .i32⟩
  | .hbm, ⟨18, _⟩ => ⟨S27648x320x8, .i32⟩
  | .hbm, ⟨19, _⟩ => ⟨S_, .i32⟩
  | .hbm, ⟨20, _⟩ => ⟨S27648x320x8, .i32⟩
  | .hbm, ⟨21, _⟩ => ⟨S27648x320x8, .i32⟩
  | .hbm, ⟨22, _⟩ => ⟨S_, .i32⟩
  | .hbm, ⟨23, _⟩ => ⟨S27648x320x8, .i32⟩
  | .hbm, ⟨24, _⟩ => ⟨S27648x320x8, .i32⟩
  | .hbm, ⟨25, _⟩ => ⟨S_, .i32⟩
  | .hbm, ⟨26, _⟩ => ⟨S27648x320x8, .i32⟩
  | .hbm, ⟨27, _⟩ => ⟨S27648x320x8, .i1⟩
  | .hbm, ⟨28, _⟩ => ⟨S_, .i32⟩
  | .hbm, ⟨29, _⟩ => ⟨S_, .i32⟩
  | .hbm, ⟨30, _⟩ => ⟨S27648x320x8, .i32⟩
  | .hbm, ⟨31, _⟩ => ⟨S27648x320x8, .i32⟩
  | .hbm, ⟨32, _⟩ => ⟨S27648x320x8, .i32⟩
  | .hbm, ⟨33, _⟩ => ⟨S_, .i32⟩
  | .hbm, ⟨34, _⟩ => ⟨S27648x320x8, .i32⟩
  | .hbm, ⟨35, _⟩ => ⟨S27648x320x8, .i1⟩
  | .hbm, ⟨36, _⟩ => ⟨S27648x320x8, .i32⟩
  | .hbm, ⟨37, _⟩ => ⟨S_, .i32⟩
  | .hbm, ⟨38, _⟩ => ⟨S27648x320x8, .i32⟩
  | .hbm, ⟨39, _⟩ => ⟨S27648x320x8, .i32⟩
  | .hbm, ⟨40, _⟩ => ⟨S_, .i32⟩
  | .hbm, ⟨41, _⟩ => ⟨S27648x320x8, .i32⟩
  | .hbm, ⟨42, _⟩ => ⟨S27648x320x8, .i32⟩
  | .hbm, ⟨43, _⟩ => ⟨S27648x320x8, .i32⟩
  | .hbm, ⟨44, _⟩ => ⟨S27648x320x8, .i16⟩
  | .hbm, ⟨45, _⟩ => ⟨S27648x320x8, .bf16⟩
  | .hbm, ⟨46, _⟩ => ⟨S27648x320x8, .bf16⟩
  | .hbm, ⟨47, _⟩ => ⟨S27648x320x8, .bf16⟩
  | .hbm, ⟨48, _⟩ => ⟨S_, .i32⟩
  | .hbm, ⟨49, _⟩ => ⟨S27648x320x8, .i32⟩
  | .hbm, ⟨50, _⟩ => ⟨S27648x320x8, .i32⟩
  | .hbm, ⟨51, _⟩ => ⟨S_, .i32⟩
  | .hbm, ⟨52, _⟩ => ⟨S27648x320x8, .i32⟩
  | .hbm, ⟨53, _⟩ => ⟨S27648x320x8, .i32⟩
  | .hbm, ⟨54, _⟩ => ⟨S_, .i32⟩
  | .hbm, ⟨55, _⟩ => ⟨S27648x320x8, .i32⟩
  | .hbm, ⟨56, _⟩ => ⟨S27648x320x8, .i32⟩
  | .hbm, ⟨57, _⟩ => ⟨S_, .i32⟩
  | .hbm, ⟨58, _⟩ => ⟨S27648x320x8, .i32⟩
  | .hbm, ⟨59, _⟩ => ⟨S27648x320x8, .i32⟩
  | .hbm, ⟨60, _⟩ => ⟨S_, .i32⟩
  | .hbm, ⟨61, _⟩ => ⟨S27648x320x8, .i32⟩
  | .hbm, ⟨62, _⟩ => ⟨S27648x320x8, .i1⟩
  | .hbm, ⟨63, _⟩ => ⟨S_, .i32⟩
  | .hbm, ⟨64, _⟩ => ⟨S_, .i32⟩
  | .hbm, ⟨65, _⟩ => ⟨S27648x320x8, .i32⟩
  | .hbm, ⟨66, _⟩ => ⟨S27648x320x8, .i32⟩
  | .hbm, ⟨67, _⟩ => ⟨S27648x320x8, .i32⟩
  | .hbm, ⟨68, _⟩ => ⟨S_, .i32⟩
  | .hbm, ⟨69, _⟩ => ⟨S27648x320x8, .i32⟩
  | .hbm, ⟨70, _⟩ => ⟨S27648x320x8, .i1⟩
  | .hbm, ⟨71, _⟩ => ⟨S27648x320x8, .i32⟩
  | .hbm, ⟨72, _⟩ => ⟨S_, .i32⟩
  | .hbm, ⟨73, _⟩ => ⟨S27648x320x8, .i32⟩
  | .hbm, ⟨74, _⟩ => ⟨S27648x320x8, .i32⟩
  | .hbm, ⟨75, _⟩ => ⟨S_, .i32⟩
  | .hbm, ⟨76, _⟩ => ⟨S27648x320x8, .i32⟩
  | .hbm, ⟨77, _⟩ => ⟨S27648x320x8, .i32⟩
  | .hbm, ⟨78, _⟩ => ⟨S27648x320x8, .i32⟩
  | .hbm, ⟨79, _⟩ => ⟨S27648x320x8, .i16⟩
  | .hbm, ⟨80, _⟩ => ⟨S27648x320x8, .bf16⟩
  | .hbm, ⟨81, _⟩ => ⟨S27648x320x8, .bf16⟩
  | .hbm, ⟨82, _⟩ => ⟨S27648x320x8, .bf16⟩
  | .hbm, ⟨83, _⟩ => ⟨S256x27648, .f32⟩
  | .hbm, ⟨84, _⟩ => ⟨S256x27648, .f32⟩
  | .hbm, ⟨85, _⟩ => ⟨S256x27648, .f32⟩
  | .hbm, ⟨86, _⟩ => ⟨S256x27648, .f32⟩
  | .hbm, ⟨87, _⟩ => ⟨S256x27648, .f32⟩
  | .hbm, ⟨88, _⟩ => ⟨S256x27648, .bf16⟩
  | .local _ .vmem, ⟨0, _⟩ => ⟨S27648x320, .fp8e4m3⟩
  | .local _ .vmem, ⟨1, _⟩ => ⟨S27648x320, .bf16⟩
  | _, _ => ⟨S256x1x5120, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c : Ref sig .tc := ⟨.hbm, 13, rfl⟩
abbrev main_v9 : Ref sig .tc := ⟨.hbm, 14, rfl⟩
abbrev main_v10 : Ref sig .tc := ⟨.hbm, 15, rfl⟩
abbrev main_c_0 : Ref sig .tc := ⟨.hbm, 16, rfl⟩
abbrev main_v11 : Ref sig .tc := ⟨.hbm, 17, rfl⟩
abbrev main_v12 : Ref sig .tc := ⟨.hbm, 18, rfl⟩
abbrev main_c_1 : Ref sig .tc := ⟨.hbm, 19, rfl⟩
abbrev main_v13 : Ref sig .tc := ⟨.hbm, 20, rfl⟩
abbrev main_v14 : Ref sig .tc := ⟨.hbm, 21, rfl⟩
abbrev main_c_2 : Ref sig .tc := ⟨.hbm, 22, rfl⟩
abbrev main_v15 : Ref sig .tc := ⟨.hbm, 23, rfl⟩
abbrev main_v16 : Ref sig .tc := ⟨.hbm, 24, rfl⟩
abbrev main_c_3 : Ref sig .tc := ⟨.hbm, 25, rfl⟩
abbrev main_v17 : Ref sig .tc := ⟨.hbm, 26, rfl⟩
abbrev main_v18 : Ref sig .tc := ⟨.hbm, 27, rfl⟩
abbrev main_c_4 : Ref sig .tc := ⟨.hbm, 28, rfl⟩
abbrev main_c_5 : Ref sig .tc := ⟨.hbm, 29, rfl⟩
abbrev main_call0_v0 : Ref sig .tc := ⟨.hbm, 30, rfl⟩
abbrev main_call0_v1 : Ref sig .tc := ⟨.hbm, 31, rfl⟩
abbrev main_v19 : Ref sig .tc := ⟨.hbm, 32, rfl⟩
abbrev main_c_6 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_7 : Ref sig .tc := ⟨.hbm, 37, rfl⟩
abbrev main_v23 : Ref sig .tc := ⟨.hbm, 38, rfl⟩
abbrev main_v24 : Ref sig .tc := ⟨.hbm, 39, rfl⟩
abbrev main_c_8 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_9 : Ref sig .tc := ⟨.hbm, 48, rfl⟩
abbrev main_v32 : Ref sig .tc := ⟨.hbm, 49, rfl⟩
abbrev main_v33 : Ref sig .tc := ⟨.hbm, 50, rfl⟩
abbrev main_c_10 : Ref sig .tc := ⟨.hbm, 51, rfl⟩
abbrev main_v34 : Ref sig .tc := ⟨.hbm, 52, rfl⟩
abbrev main_v35 : Ref sig .tc := ⟨.hbm, 53, rfl⟩
abbrev main_c_11 : Ref sig .tc := ⟨.hbm, 54, rfl⟩
abbrev main_v36 : Ref sig .tc := ⟨.hbm, 55, rfl⟩
abbrev main_v37 : Ref sig .tc := ⟨.hbm, 56, rfl⟩
abbrev main_c_12 : Ref sig .tc := ⟨.hbm, 57, rfl⟩
abbrev main_v38 : Ref sig .tc := ⟨.hbm, 58, rfl⟩
abbrev main_v39 : Ref sig .tc := ⟨.hbm, 59, rfl⟩
abbrev main_c_13 : Ref sig .tc := ⟨.hbm, 60, rfl⟩
abbrev main_v40 : Ref sig .tc := ⟨.hbm, 61, rfl⟩
abbrev main_v41 : Ref sig .tc := ⟨.hbm, 62, rfl⟩
abbrev main_c_14 : Ref sig .tc := ⟨.hbm, 63, rfl⟩
abbrev main_c_15 : Ref sig .tc := ⟨.hbm, 64, rfl⟩
abbrev main_call2_v0 : Ref sig .tc := ⟨.hbm, 65, rfl⟩
abbrev main_call2_v1 : Ref sig .tc := ⟨.hbm, 66, rfl⟩
abbrev main_v42 : Ref sig .tc := ⟨.hbm, 67, rfl⟩
abbrev main_c_16 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_c_17 : Ref sig .tc := ⟨.hbm, 72, rfl⟩
abbrev main_v46 : Ref sig .tc := ⟨.hbm, 73, rfl⟩
abbrev main_v47 : Ref sig .tc := ⟨.hbm, 74, rfl⟩
abbrev main_c_18 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S27648x320 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S27648x320 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Word.lean ====
module

public import Idealize.ShloMosaic.Lib.BitcastFour
public import Idealize.ShloMosaic.Lib.Pointwise

@[expose] public section

set_option maxRecDepth 16384

noncomputable section

/-!
Four bytes of a column are read as one word, the word is shifted and masked, and the bytes are read back.
The masks keep the bits of one byte inside that byte, so the result is an operation on each byte alone.
-/

namespace Cert.Hand

open Idealize.ShloMosaic

/-- The low four bits `s m₂ m₁ m₀` of a byte, placed as the byte `s 0 0 m₂ m₁ m₀ 0 0`. -/
def lowByte (b : BitVec 8) : BitVec 8 := (b <<< 4 &&& 128#8) ||| (b <<< 4 >>> 2 &&& 28#8)

/-- The high four bits `s m₂ m₁ m₀` of a byte, placed as the byte `s 0 0 m₂ m₁ m₀ 0 0`. -/
def highByte (b : BitVec 8) : BitVec 8 := (b &&& 128#8) ||| (b >>> 2 &&& 28#8)

/-- The word on which `lowByte` acts in each of its four bytes. -/
def lowWord (w : BitVec 32) : BitVec 32 := (w <<< 4 &&& 2155905152#32) ||| (w <<< 4 >>> 2 &&& 471604252#32)

/-- The word on which `highByte` acts in each of its four bytes. -/
def highWord (w : BitVec 32) : BitVec 32 := (w &&& 2155905152#32) ||| (w >>> 2 &&& 471604252#32)

/-- A bit of byte `k` of `lowWord w` is that bit of `lowByte` of byte `k` of `w`. -/
theorem lowWord_getLsbD (w : BitVec 32) (b : BitVec 8) (k : ℕ) (hk : k < 4)
    (hb : ∀ q < 8, w.getLsbD (8 * k + q) = b.getLsbD q) (q : ℕ) (hq : q < 8) :
    (lowWord w).getLsbD (8 * k + q) = (lowByte b).getLsbD q := by
  have h0 := hb 0 (by omega); have h1 := hb 1 (by omega); have h2 := hb 2 (by omega); have h3 := hb 3 (by omega)
  clear hb
  unfold lowWord lowByte
  interval_cases k <;> interval_cases q <;>
    simp [BitVec.getLsbD_ofNat, Nat.testBit, Nat.shiftRight_eq_div_pow] at h0 h1 h2 h3 ⊢ <;> simp [h0, h1, h2, h3]

/-- A bit of byte `k` of `highWord w` is that bit of `highByte` of byte `k` of `w`. -/
theorem highWord_getLsbD (w : BitVec 32) (b : BitVec 8) (k : ℕ) (hk : k < 4)
    (hb : ∀ q < 8, w.getLsbD (8 * k + q) = b.getLsbD q) (q : ℕ) (hq : q < 8) :
    (highWord w).getLsbD (8 * k + q) = (highByte b).getLsbD q := by
  have h0 := hb 4 (by omega); have h1 := hb 5 (by omega); have h2 := hb 6 (by omega); have h3 := hb 7 (by omega)
  clear hb
  unfold highWord highByte
  interval_cases k <;> interval_cases q <;>
    simp [BitVec.getLsbD_ofNat, Nat.testBit, Nat.shiftRight_eq_div_pow] at h0 h1 h2 h3 ⊢ <;> simp [h0, h1, h2, h3]

/-- Bytes read as words, an operation made on each word, the words read back as bytes: where the operation on words
    is an operation on each byte, the result is that operation at each byte. -/
theorem bytes_of_words {R r n : ℕ} (x : (⟨2, ![R, n]⟩ : Shape).Idx → BitVec 8)
    (h : (⟨2, ![R, n]⟩ : Shape).Bitcasts 8 ⟨2, ![r, n]⟩ 32) (h' : (⟨2, ![r, n]⟩ : Shape).Bitcasts 32 ⟨2, ![R, n]⟩ 8)
    (hR : R = 4 * r) (f : BitVec 32 → BitVec 32) (g : BitVec 8 → BitVec 8)
    (hfg : ∀ (w : BitVec 32) (b : BitVec 8) (k : ℕ), k < 4 → (∀ q < 8, w.getLsbD (8 * k + q) = b.getLsbD q) →
      ∀ q < 8, (f w).getLsbD (8 * k + q) = (g b).getLsbD q)
    (j : (⟨2, ![R, n]⟩ : Shape).Idx) :
    bitcast ⟨2, ![R, n]⟩ 8 (fun i => f (bitcast ⟨2, ![r, n]⟩ 32 x h i)) h' j = g (x j) := by
  obtain ⟨p, l, rfl⟩ : ∃ (p : Fin R) (l : Fin n), j = ValueIdx.ix2 p l := ⟨j 0, j 1, ValueIdx.eq_ix2 j⟩
  apply BitVec.eq_of_getLsbD_eq
  intro q hq
  rw [bitcast_getLsbD _ h' _ q hq (by decide)]
  have hp := p.isLt
  have hrow : (⟨2, ![R, n]⟩ : Shape).row (ValueIdx.ix2 p l) = p.val := rfl
  have ha : (p.val * 8 + q) / 32 = p.val / 4 := by omega
  have hb : (p.val * 8 + q) % 32 = 8 * (p.val % 4) + q := by omega
  have hsrc : h'.srcIdx (ValueIdx.ix2 p l) (((⟨2, ![R, n]⟩ : Shape).row (ValueIdx.ix2 p l) * 8 + q) / 32)
      (fun a ha => (Nat.div_lt_iff_lt_mul (by decide)).2 (h'.pos_lt _ q hq a ha))
        = ValueIdx.ix2 (⟨p.val / 4, by omega⟩ : Fin r) l := by
    funext c
    match c with
    | ⟨0, _⟩ => exact Fin.ext ((h'.srcIdx_row _ _ _ ⟨0, Nat.zero_lt_two⟩ rfl).trans (by rw [hrow]; exact ha))
    | ⟨1, _⟩ => exact Fin.ext (h'.srcIdx_other _ _ _ ⟨1, Nat.one_lt_two⟩ (by show ¬ 1 + 2 = 2; omega))
  rw [hsrc, hrow, hb]
  refine hfg _ _ _ (Nat.mod_lt _ (by decide)) (fun q' hq' => ?_) q hq
  rw [bitcast_8_32_getLsbD_ix2 x h _ l (8 * (p.val % 4) + q') (by omega) p (by show p.val = 4 * (p.val / 4) + _; omega)]
  congr 1; omega

end Cert.Hand

end
-- ==== Proof.Tile.lean ====
/-
  One tile of 128 packed columns, as the kernel's body computes it, read element by element. The body is unrolled
  over twenty tiles that differ only in two offsets, so what is proved here of one tile serves all of them: the
  scale of column `l` of a tile is the one at column `l / 8 + off` of the 128 scales loaded for it, and the two
  decoded weights of a byte are its two nibbles, placed as bytes (Word.lean), times that scale.
-/
module

public import proofs.«01_k».proof.Proof.Word
public import Idealize.ShloMosaic.Lib.Pipeline.Value
public import Idealize.ShloMosaic.Lib.Pointwise

@[expose] public section

noncomputable section

namespace Cert.Hand

open Idealize.ShloMosaic

variable {F : FTy → Type} [FloatOps F]

/-- A tile: 1024 rows of 128 lanes. -/
abbrev STile : Shape := ⟨2, ![1024, 128]⟩

/-- The lane numbers of a tile. -/
def lanes (h : STile.Iotas .tc 32 [1]) : IVec STile 32 := iota .tc STile 32 [1] h

/-- The floor division by eight of the lane numbers, plus `off`, negative results wrapped round by 128: the column of
    the scale of each lane, in the steps the kernel computes it in. -/
def scaleCol (off : BitVec 32) (h : STile.Iotas .tc 32 [1]) (h1 : 1 < 32) : IVec STile 32 :=
  let q : IVec STile 32 := divsi (lanes h) (broadcast STile 8#32)
  let sg : IVec STile 32 := subi (extui 32 (cmpi .sgt (lanes h) (broadcast STile 0#32)) h1)
    (extui 32 (cmpi .slt (lanes h) (broadcast STile 0#32)) h1)
  let sd : BitVec 32 := Scalar.subi (Scalar.extui (Scalar.cmpi .sgt 8#32 0#32)) (Scalar.extui (Scalar.cmpi .slt 8#32 0#32))
  let fix : IVec STile 1 := andi (cmpi .ne sg (broadcast STile sd))
    (cmpi .ne (remsi (lanes h) (broadcast STile 8#32)) (broadcast STile 0#32))
  let d : IVec STile 32 := addi (select fix (subi q (broadcast STile 1#32)) q) (broadcast STile off)
  select (cmpi .slt d (broadcast STile 0#32)) (addi d (broadcast STile 128#32)) d

/-- The same on one lane number. -/
def scaleCol1 (off l : BitVec 32) : BitVec 32 :=
  let q := IntOp.divsi .vector l 8#32
  let sg := IntOp.subi ((IntOp.cmpi .sgt l 0#32).setWidth 32) ((IntOp.cmpi .slt l 0#32).setWidth 32)
  let sd : BitVec 32 := Scalar.subi (Scalar.extui (Scalar.cmpi .sgt 8#32 0#32)) (Scalar.extui (Scalar.cmpi .slt 8#32 0#32))
  let fix := IntOp.andi (IntOp.cmpi .ne sg sd) (IntOp.cmpi .ne (IntOp.remsi .vector l 8#32) 0#32)
  let d := IntOp.addi (Scalar.select fix (IntOp.subi q 1#32) q) off
  Scalar.select (IntOp.cmpi .slt d 0#32) (IntOp.addi d 128#32) d

/-- On the lanes `0 … 127` and the eight offsets that occur it is `l / 8 + off`. -/
theorem scaleCol1_eq : ∀ (o : Fin 8) (l : Fin 128),
    (scaleCol1 (BitVec.ofNat 32 (16 * o.val)) (BitVec.ofNat 32 l.val)).toNat = l.val / 8 + 16 * o.val := by
  decide +kernel

theorem scaleCol_apply (off : BitVec 32) (h : STile.Iotas .tc 32 [1]) (h1 : 1 < 32) (j : STile.Idx) :
    scaleCol off h h1 j = scaleCol1 off (BitVec.ofNat 32 (j 1).val) := by
  have hl : lanes h j = BitVec.ofNat 32 (j 1).val := by
    show BitVec.ofNat 32 ([(1 : Fin 2)].foldl (fun n a => n * STile.size a + (j a).val) 0) = _
    simp only [List.foldl, Nat.zero_mul, Nat.zero_add]
  rw [← hl]; rfl

/-- The scales of a tile: those loaded, widened, gathered along the lanes at `scaleCol`, narrowed. -/
def scaleTile (off : BitVec 32) (h : STile.Iotas .tc 32 [1]) (h1 : 1 < 32) (hc : STile.ShapeCasts ⟨3, ![1024, 128, 1]⟩)
    (hc' : (⟨3, ![1024, 128, 1]⟩ : Shape).ShapeCasts STile) (hx : FTy.fp8e4m3.bits < FTy.f32.bits) (ht : FTy.bf16.bits < FTy.f32.bits)
    (v : FVec F STile .fp8e4m3) : FVec F STile .bf16 :=
  truncf .bf16 (dynamicGather 1 (extf .f32 v hx) (shapeCast STile (shapeCast ⟨3, ![1024, 128, 1]⟩ (scaleCol off h h1) hc) hc')) ht

/-- The scale of lane `l` of row `r`: the one loaded at row `r`, column `l / 8 + off`. -/
theorem scaleTile_apply (o : ℕ) (ho : o < 8) (off : BitVec 32) (hoff : off = BitVec.ofNat 32 (16 * o)) (h : STile.Iotas .tc 32 [1]) (h1 : 1 < 32) (hc) (hc')
    (hx : FTy.fp8e4m3.bits < FTy.f32.bits) (ht : FTy.bf16.bits < FTy.f32.bits) (v : FVec F STile .fp8e4m3) (r : Fin 1024) (l : Fin 128) :
    scaleTile off h h1 hc hc' hx ht v (ValueIdx.ix2 r l)
      = FloatOps.truncf .bf16 ht (FloatOps.extf .f32 hx (v (ValueIdx.ix2 r (⟨l.val / 8 + 16 * o, by omega⟩ : Fin 128)))) := by
  have hcol : (scaleCol off h h1 (ValueIdx.ix2 r l)).toNat = l.val / 8 + 16 * o := by
    rw [scaleCol_apply, hoff]; exact scaleCol1_eq ⟨o, ho⟩ l
  unfold scaleTile
  rw [shapeCast_shapeCast]
  show FloatOps.truncf .bf16 ht (FloatOps.extf .f32 hx (v _)) = _
  congr 3
  funext b
  match b with
  | ⟨0, _⟩ => rfl
  | ⟨1, _⟩ =>
    refine Fin.ext ?_
    show (scaleCol off h h1 (ValueIdx.ix2 r l)).toNat % 128 = _
    rw [hcol]; exact Nat.mod_eq_of_lt (by omega)

/-- The weights of a tile from the low nibbles of its bytes, as the body computes them. -/
def lowTile (hw : STile.Bitcasts 8 ⟨2, ![256, 128]⟩ 32) (hw' : (⟨2, ![256, 128]⟩ : Shape).Bitcasts 32 STile 8)
    (hx : FTy.fp8e4m3.bits < FTy.bf16.bits) (hs : STile.ShapeCasts STile) (w : IVec STile 8) (s : FVec F STile .bf16) : FVec F STile .bf16 :=
  let u : IVec ⟨2, ![256, 128]⟩ 32 := shli (bitcast ⟨2, ![256, 128]⟩ 32 w hw) (broadcast ⟨2, ![256, 128]⟩ 4#32)
  shapeCast STile (mulf (extf .bf16 (bitcastToFloat .fp8e4m3 (bitcast STile 8
    (ori (andi u (broadcast ⟨2, ![256, 128]⟩ 2155905152#32))
      (andi (shrui u (broadcast ⟨2, ![256, 128]⟩ 2#32)) (broadcast ⟨2, ![256, 128]⟩ 471604252#32))) hw')) hx) s) hs

/-- The weights of a tile from the high nibbles. -/
def highTile (hw : STile.Bitcasts 8 ⟨2, ![256, 128]⟩ 32) (hw' : (⟨2, ![256, 128]⟩ : Shape).Bitcasts 32 STile 8)
    (hx : FTy.fp8e4m3.bits < FTy.bf16.bits) (hs : STile.ShapeCasts STile) (w : IVec STile 8) (s : FVec F STile .bf16) : FVec F STile .bf16 :=
  let u : IVec ⟨2, ![256, 128]⟩ 32 := bitcast ⟨2, ![256, 128]⟩ 32 w hw
  shapeCast STile (mulf (extf .bf16 (bitcastToFloat .fp8e4m3 (bitcast STile 8
    (ori (andi u (broadcast ⟨2, ![256, 128]⟩ 2155905152#32))
      (andi (shrui u (broadcast ⟨2, ![256, 128]⟩ 2#32)) (broadcast ⟨2, ![256, 128]⟩ 471604252#32))) hw')) hx) s) hs

theorem lowTile_apply (hw) (hw') (hx) (hs) (w : IVec STile 8) (s : FVec F STile .bf16) (j : STile.Idx) :
    lowTile hw hw' hx hs w s j = FloatOps.mulf (FloatOps.extf .bf16 hx (FloatOps.ofBits .fp8e4m3 (lowByte (w j)))) (s j) := by
  unfold lowTile
  rw [shapeCast_self]
  have h := bytes_of_words w hw hw' rfl lowWord lowByte lowWord_getLsbD j
  show FloatOps.mulf (FloatOps.extf .bf16 hx (FloatOps.ofBits .fp8e4m3 (bitcast STile 8 (fun i => lowWord (bitcast ⟨2, ![256, 128]⟩ 32 w hw i)) hw' j))) (s j) = _
  rw [h]

theorem highTile_apply (hw) (hw') (hx) (hs) (w : IVec STile 8) (s : FVec F STile .bf16) (j : STile.Idx) :
    highTile hw hw' hx hs w s j = FloatOps.mulf (FloatOps.extf .bf16 hx (FloatOps.ofBits .fp8e4m3 (highByte (w j)))) (s j) := by
  unfold highTile
  rw [shapeCast_self]
  have h := bytes_of_words w hw hw' rfl highWord highByte highWord_getLsbD j
  show FloatOps.mulf (FloatOps.extf .bf16 hx (FloatOps.ofBits .fp8e4m3 (bitcast STile 8 (fun i => highWord (bitcast ⟨2, ![256, 128]⟩ 32 w hw i)) hw' j))) (s j) = _
  rw [h]

/-! ## The block of weights -/

/-- The block of packed bytes, of scales and of weights of one point. -/
abbrev SBytes : Shape := ⟨2, ![1024, 2560]⟩
abbrev SScales : Shape := ⟨2, ![1024, 384]⟩

/-- The scale of packed column `k` is at column `k / 8`. -/
def scaleAt (x3 : FVec F SScales .fp8e4m3) (y : SBytes.Idx) : F .bf16 :=
  FloatOps.truncf .bf16 (by decide) (FloatOps.extf .f32 (by decide)
    (x3 (ValueIdx.ix2 (y 0) (⟨(y 1).val / 8, by have : (y 1).val < 2560 := (y 1).isLt; omega⟩ : Fin 384))))

/-- The weights from the low nibbles, one at each packed byte. -/
def wLow (x2 : IVec SBytes 8) (x3 : FVec F SScales .fp8e4m3) : FVec F SBytes .bf16 := fun y =>
  FloatOps.mulf (FloatOps.extf .bf16 (by decide) (FloatOps.ofBits .fp8e4m3 (lowByte (x2 y)))) (scaleAt x3 y)

/-- The weights from the high nibbles. -/
def wHigh (x2 : IVec SBytes 8) (x3 : FVec F SScales .fp8e4m3) : FVec F SBytes .bf16 := fun y =>
  FloatOps.mulf (FloatOps.extf .bf16 (by decide) (FloatOps.ofBits .fp8e4m3 (highByte (x2 y)))) (scaleAt x3 y)

/-- The scales a tile loads and gathers are the block's: tile `t` starts at packed column `128 t`, its scales are loaded
    from column `col` and gathered from `off` on, and `col + off = 16 t`. -/
theorem scaleTile_block (t col o : ℕ) (ho : o < 8) (hto : col + 16 * o = 16 * t) (off : BitVec 32) (hoff : off = BitVec.ofNat 32 (16 * o))
    (h : STile.Iotas .tc 32 [1]) (h1 : 1 < 32) (hc) (hc') (hx) (ht)
    (ib : ∀ a, (![0, 128 * t] : Fin 2 → ℕ) a + STile.size a ≤ SBytes.size a) (is : ∀ a, (![0, col] : Fin 2 → ℕ) a + STile.size a ≤ SScales.size a)
    (v : FVec F STile .fp8e4m3) (x3 : FVec F SScales .fp8e4m3) (hv : ∀ j, v j = x3 ((Rect.unit (s := SScales) ![0, col] STile.size is).emb j)) (j : STile.Idx) :
    scaleTile off h h1 hc hc' hx ht v j = scaleAt x3 ((Rect.unit (s := SBytes) ![0, 128 * t] STile.size ib).emb j) := by
  obtain ⟨r, l, rfl⟩ : ∃ (r : Fin 1024) (l : Fin 128), j = ValueIdx.ix2 r l := ⟨j 0, j 1, ValueIdx.eq_ix2 j⟩
  rw [scaleTile_apply o ho off hoff, hv]
  unfold scaleAt
  congr 3
  funext a
  match a with
  | ⟨0, _⟩ => exact Fin.ext rfl
  | ⟨1, _⟩ =>
    refine Fin.ext ?_
    show col + 1 * (l.val / 8 + 16 * o) = (128 * t + 1 * l.val) / 8
    omega

theorem lowTile_block (t col o : ℕ) (ho : o < 8) (hto : col + 16 * o = 16 * t) (off : BitVec 32) (hoff : off = BitVec.ofNat 32 (16 * o))
    (h : STile.Iotas .tc 32 [1]) (h1 : 1 < 32) (hc) (hc') (hx) (ht) (hw) (hw') (hx') (hs)
    (ib : ∀ a, (![0, 128 * t] : Fin 2 → ℕ) a + STile.size a ≤ SBytes.size a) (is : ∀ a, (![0, col] : Fin 2 → ℕ) a + STile.size a ≤ SScales.size a)
    (v : FVec F STile .fp8e4m3) (w : IVec STile 8) (x2 : IVec SBytes 8) (x3 : FVec F SScales .fp8e4m3)
    (hwv : ∀ j, w j = x2 ((Rect.unit (s := SBytes) ![0, 128 * t] STile.size ib).emb j))
    (hv : ∀ j, v j = x3 ((Rect.unit (s := SScales) ![0, col] STile.size is).emb j)) (j : STile.Idx) :
    lowTile hw hw' hx' hs w (scaleTile off h h1 hc hc' hx ht v) j = wLow x2 x3 ((Rect.unit (s := SBytes) ![0, 128 * t] STile.size ib).emb j) := by
  rw [lowTile_apply, scaleTile_block t col o ho hto off hoff h h1 hc hc' hx ht ib is v x3 hv, hwv]; rfl

theorem highTile_block (t col o : ℕ) (ho : o < 8) (hto : col + 16 * o = 16 * t) (off : BitVec 32) (hoff : off = BitVec.ofNat 32 (16 * o))
    (h : STile.Iotas .tc 32 [1]) (h1 : 1 < 32) (hc) (hc') (hx) (ht) (hw) (hw') (hx') (hs)
    (ib : ∀ a, (![0, 128 * t] : Fin 2 → ℕ) a + STile.size a ≤ SBytes.size a) (is : ∀ a, (![0, col] : Fin 2 → ℕ) a + STile.size a ≤ SScales.size a)
    (v : FVec F STile .fp8e4m3) (w : IVec STile 8) (x2 : IVec SBytes 8) (x3 : FVec F SScales .fp8e4m3)
    (hwv : ∀ j, w j = x2 ((Rect.unit (s := SBytes) ![0, 128 * t] STile.size ib).emb j))
    (hv : ∀ j, v j = x3 ((Rect.unit (s := SScales) ![0, col] STile.size is).emb j)) (j : STile.Idx) :
    highTile hw hw' hx' hs w (scaleTile off h h1 hc hc' hx ht v) j = wHigh x2 x3 ((Rect.unit (s := SBytes) ![0, 128 * t] STile.size ib).emb j) := by
  rw [highTile_apply, scaleTile_block t col o ho hto off hoff h h1 hc hc' hx ht ib is v x3 hv, hwv]; rfl

end Cert.Hand

end
-- ==== Proof.KernelBody.lean ====
/-
  The kernel's body, on any buffers: from blocks `x0`, `x1` of activations, `x2` of packed bytes, `x3` of scales and the
  global scale `x4`, the output buffer ends at `outBlk x0 x1 x2 x3 x4`, the inputs unchanged. The two scratch buffers
  are filled tile by tile with the weights of the low and of the high nibbles (Tile.lean), then read whole.
-/
module

public import proofs.«01_k».proof.Proof.Tile
public import proofs.«01_k».proof.Proof.Gen.Kernel.Launch
public import proofs.«01_k».proof.Proof.Gen.Kernel.Skeleton
public import proofs.«01_k».proof.Proof.Gen.Kernel.Points
public import proofs.«01_k».proof.Proof.Gen.Kernel.Frame
public import Idealize.ShloMosaic.Lib.VecWindow
public import Idealize.ShloMosaic.Lib.Pipeline.FrameBody
public import Idealize.ShloMosaic.Lib.Tactic

@[expose] public section

set_option maxRecDepth 16384

noncomputable section

namespace Cert.Kernel.Hand

open Cert.Kernel Cert.Kernel.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The block of results of one point: the activations of even and odd columns against the weights of the low and of
    the high nibbles, the two products added, times the global scale times 64. -/
def outBlk (x0 x1 : Vec F S256x2560 .bf16) (x2 : Vec F S1024x2560 .i8) (x3 : Vec F S1024x384 .fp8e4m3) (x4 : Vec F S1x1 .f32) :
    Vec F S256x1024 .bf16 :=
  k0_pay1 (k0_pay143 x0) (wLow x2 x3) x1 (wHigh x2 x3) (x4 (ValueIdx.ix2 0 0))

set_option maxHeartbeats 4000000 in
theorem sound_kernel (c : Dev nD) (E : Set ℕ) (i : grid0.Coords)
    (arg1 : Memref sig .tc .vmem S256x2560 .bf16) (harg1 : arg1.IsWhole) (arg2 : Memref sig .tc .vmem S256x2560 .bf16) (harg2 : arg2.IsWhole)
    (arg3 : Memref sig .tc .vmem S1024x2560 .i8) (harg3 : arg3.IsWhole) (arg4 : Memref sig .tc .vmem S1024x384 .fp8e4m3) (harg4 : arg4.IsWhole)
    (arg5 : Memref sig .tc .smem S1x1 .f32) (harg5 : arg5.IsWhole) (arg6 : Memref sig .tc .vmem S256x1024 .bf16) (harg6 : arg6.IsWhole)
    (arg7 : Memref sig .tc .vmem S1024x2560 .bf16) (harg7 : arg7.IsWhole) (arg8 : Memref sig .tc .vmem S1024x2560 .bf16) (harg8 : arg8.IsWhole)
    (x0 x1 : Vec F S256x2560 .bf16) (x2 : Vec F S1024x2560 .i8) (x3 : Vec F S1024x384 .fp8e4m3) (x4 : Vec F S1x1 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (outBlk x0 x1 x2 x3 x4) ∗ (∃ d, owns (c : Thread nD τ) arg7 fullShare d) ∗ (∃ d, owns (c : Thread nD τ) arg8 fullShare d)) -∗ K ⟨⟩))
      ⊢ wp frame (wpE (defs₀ (F := F)) Variants.none c none) E
          (cc0__body i arg1 harg1 arg2 harg2 arg3 harg3 arg4 harg4 arg5 harg5 arg6 harg6 arg7 harg7 arg8 harg8) K := by
  simp only [cc0__body_eq_skeleton]; unfold cc0__body_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf1; subst hf2; subst hf3; subst hf4; subst hf5
  sl_exec_parts
  have hp7 : ∀ p ∈ sound_kernel.sl.H7_20 c arg3 arg4 f3 f4, ∀ x : p.1.shape.Idx,
      p.2 x = wLow (arg3.view.read (Elt F) f3) (arg4.view.read (Elt F) f4) (p.1.emb x) := by
    refine List.forall_mem_cons.2 ⟨lowTile_block 19 256 3 (by decide) (by decide) 48#32 rfl iota_S1024x128_d1_w32 natLt_1_32 shapeCasts_S1024x128_S1024x128x1
      shapeCasts_S1024x128x1_S1024x128 bitsLt_fp8e4m3_f32 bitsLt_bf16_f32 bitcasts_S1024x128_w8_S256x128_w32 bitcasts_S256x128_w32_S1024x128_w8
      bitsLt_fp8e4m3_bf16 shapeCasts_S1024x128_S1024x128 inb_S1024x2560_S1024x128_0_2432 inb_S1024x384_S1024x128_0_256
      (View.readAt (Elt F) arg4.view (Rect.unit (s := S1024x384) ![0, 256] S1024x128.size inb_S1024x384_S1024x128_0_256).toLoadRect f4)
      (View.readAt (Elt F) arg3.view (Rect.unit (s := S1024x2560) ![0, 2432] S1024x128.size inb_S1024x2560_S1024x128_0_2432).toLoadRect f3)
      (arg3.view.read (Elt F) f3) (arg4.view.read (Elt F) f4) (fun _ => rfl) (fun _ => rfl), ?_⟩
    refine List.forall_mem_cons.2 ⟨lowTile_block 18 256 2 (by decide) (by decide) 32#32 rfl iota_S1024x128_d1_w32 natLt_1_32 shapeCasts_S1024x128_S1024x128x1
      shapeCasts_S1024x128x1_S1024x128 bitsLt_fp8e4m3_f32 bitsLt_bf16_f32 bitcasts_S1024x128_w8_S256x128_w32 bitcasts_S256x128_w32_S1024x128_w8
      bitsLt_fp8e4m3_bf16 shapeCasts_S1024x128_S1024x128 inb_S1024x2560_S1024x128_0_2304 inb_S1024x384_S1024x128_0_256
      (View.readAt (Elt F) arg4.view (Rect.unit (s := S1024x384) ![0, 256] S1024x128.size inb_S1024x384_S1024x128_0_256).toLoadRect f4)
      (View.readAt (Elt F) arg3.view (Rect.unit (s := S1024x2560) ![0, 2304] S1024x128.size inb_S1024x2560_S1024x128_0_2304).toLoadRect f3)
      (arg3.view.read (Elt F) f3) (arg4.view.read (Elt F) f4) (fun _ => rfl) (fun _ => rfl), ?_⟩
    refine List.forall_mem_cons.2 ⟨lowTile_block 17 256 1 (by decide) (by decide) 16#32 rfl iota_S1024x128_d1_w32 natLt_1_32 shapeCasts_S1024x128_S1024x128x1
      shapeCasts_S1024x128x1_S1024x128 bitsLt_fp8e4m3_f32 bitsLt_bf16_f32 bitcasts_S1024x128_w8_S256x128_w32 bitcasts_S256x128_w32_S1024x128_w8
      bitsLt_fp8e4m3_bf16 shapeCasts_S1024x128_S1024x128 inb_S1024x2560_S1024x128_0_2176 inb_S1024x384_S1024x128_0_256
      (View.readAt (Elt F) arg4.view (Rect.unit (s := S1024x384) ![0, 256] S1024x128.size inb_S1024x384_S1024x128_0_256).toLoadRect f4)
      (View.readAt (Elt F) arg3.view (Rect.unit (s := S1024x2560) ![0, 2176] S1024x128.size inb_S1024x2560_S1024x128_0_2176).toLoadRect f3)
      (arg3.view.read (Elt F) f3) (arg4.view.read (Elt F) f4) (fun _ => rfl) (fun _ => rfl), ?_⟩
    refine List.forall_mem_cons.2 ⟨lowTile_block 16 256 0 (by decide) (by decide) 0#32 rfl iota_S1024x128_d1_w32 natLt_1_32 shapeCasts_S1024x128_S1024x128x1
      shapeCasts_S1024x128x1_S1024x128 bitsLt_fp8e4m3_f32 bitsLt_bf16_f32 bitcasts_S1024x128_w8_S256x128_w32 bitcasts_S256x128_w32_S1024x128_w8
      bitsLt_fp8e4m3_bf16 shapeCasts_S1024x128_S1024x128 inb_S1024x2560_S1024x128_0_2048 inb_S1024x384_S1024x128_0_256
      (View.readAt (Elt F) arg4.view (Rect.unit (s := S1024x384) ![0, 256] S1024x128.size inb_S1024x384_S1024x128_0_256).toLoadRect f4)
      (View.readAt (Elt F) arg3.view (Rect.unit (s := S1024x2560) ![0, 2048] S1024x128.size inb_S1024x2560_S1024x128_0_2048).toLoadRect f3)
      (arg3.view.read (Elt F) f3) (arg4.view.read (Elt F) f4) (fun _ => rfl) (fun _ => rfl), ?_⟩
    refine List.forall_mem_cons.2 ⟨lowTile_block 15 128 7 (by decide) (by decide) 112#32 rfl iota_S1024x128_d1_w32 natLt_1_32 shapeCasts_S1024x128_S1024x128x1
      shapeCasts_S1024x128x1_S1024x128 bitsLt_fp8e4m3_f32 bitsLt_bf16_f32 bitcasts_S1024x128_w8_S256x128_w32 bitcasts_S256x128_w32_S1024x128_w8
      bitsLt_fp8e4m3_bf16 shapeCasts_S1024x128_S1024x128 inb_S1024x2560_S1024x128_0_1920 inb_S1024x384_S1024x128_0_128
      (View.readAt (Elt F) arg4.view (Rect.unit (s := S1024x384) ![0, 128] S1024x128.size inb_S1024x384_S1024x128_0_128).toLoadRect f4)
      (View.readAt (Elt F) arg3.view (Rect.unit (s := S1024x2560) ![0, 1920] S1024x128.size inb_S1024x2560_S1024x128_0_1920).toLoadRect f3)
      (arg3.view.read (Elt F) f3) (arg4.view.read (Elt F) f4) (fun _ => rfl) (fun _ => rfl), ?_⟩
    refine List.forall_mem_cons.2 ⟨lowTile_block 14 128 6 (by decide) (by decide) 96#32 rfl iota_S1024x128_d1_w32 natLt_1_32 shapeCasts_S1024x128_S1024x128x1
      shapeCasts_S1024x128x1_S1024x128 bitsLt_fp8e4m3_f32 bitsLt_bf16_f32 bitcasts_S1024x128_w8_S256x128_w32 bitcasts_S256x128_w32_S1024x128_w8
      bitsLt_fp8e4m3_bf16 shapeCasts_S1024x128_S1024x128 inb_S1024x2560_S1024x128_0_1792 inb_S1024x384_S1024x128_0_128
      (View.readAt (Elt F) arg4.view (Rect.unit (s := S1024x384) ![0, 128] S1024x128.size inb_S1024x384_S1024x128_0_128).toLoadRect f4)
      (View.readAt (Elt F) arg3.view (Rect.unit (s := S1024x2560) ![0, 1792] S1024x128.size inb_S1024x2560_S1024x128_0_1792).toLoadRect f3)
      (arg3.view.read (Elt F) f3) (arg4.view.read (Elt F) f4) (fun _ => rfl) (fun _ => rfl), ?_⟩
    refine List.forall_mem_cons.2 ⟨lowTile_block 13 128 5 (by decide) (by decide) 80#32 rfl iota_S1024x128_d1_w32 natLt_1_32 shapeCasts_S1024x128_S1024x128x1
      shapeCasts_S1024x128x1_S1024x128 bitsLt_fp8e4m3_f32 bitsLt_bf16_f32 bitcasts_S1024x128_w8_S256x128_w32 bitcasts_S256x128_w32_S1024x128_w8
      bitsLt_fp8e4m3_bf16 shapeCasts_S1024x128_S1024x128 inb_S1024x2560_S1024x128_0_1664 inb_S1024x384_S1024x128_0_128
      (View.readAt (Elt F) arg4.view (Rect.unit (s := S1024x384) ![0, 128] S1024x128.size inb_S1024x384_S1024x128_0_128).toLoadRect f4)
      (View.readAt (Elt F) arg3.view (Rect.unit (s := S1024x2560) ![0, 1664] S1024x128.size inb_S1024x2560_S1024x128_0_1664).toLoadRect f3)
      (arg3.view.read (Elt F) f3) (arg4.view.read (Elt F) f4) (fun _ => rfl) (fun _ => rfl), ?_⟩
    refine List.forall_mem_cons.2 ⟨lowTile_block 12 128 4 (by decide) (by decide) 64#32 rfl iota_S1024x128_d1_w32 natLt_1_32 shapeCasts_S1024x128_S1024x128x1
      shapeCasts_S1024x128x1_S1024x128 bitsLt_fp8e4m3_f32 bitsLt_bf16_f32 bitcasts_S1024x128_w8_S256x128_w32 bitcasts_S256x128_w32_S1024x128_w8
      bitsLt_fp8e4m3_bf16 shapeCasts_S1024x128_S1024x128 inb_S1024x2560_S1024x128_0_1536 inb_S1024x384_S1024x128_0_128
      (View.readAt (Elt F) arg4.view (Rect.unit (s := S1024x384) ![0, 128] S1024x128.size inb_S1024x384_S1024x128_0_128).toLoadRect f4)
      (View.readAt (Elt F) arg3.view (Rect.unit (s := S1024x2560) ![0, 1536] S1024x128.size inb_S1024x2560_S1024x128_0_1536).toLoadRect f3)
      (arg3.view.read (Elt F) f3) (arg4.view.read (Elt F) f4) (fun _ => rfl) (fun _ => rfl), ?_⟩
    refine List.forall_mem_cons.2 ⟨lowTile_block 11 128 3 (by decide) (by decide) 48#32 rfl iota_S1024x128_d1_w32 natLt_1_32 shapeCasts_S1024x128_S1024x128x1
      shapeCasts_S1024x128x1_S1024x128 bitsLt_fp8e4m3_f32 bitsLt_bf16_f32 bitcasts_S1024x128_w8_S256x128_w32 bitcasts_S256x128_w32_S1024x128_w8
      bitsLt_fp8e4m3_bf16 shapeCasts_S1024x128_S1024x128 inb_S1024x2560_S1024x128_0_1408 inb_S1024x384_S1024x128_0_128
      (View.readAt (Elt F) arg4.view (Rect.unit (s := S1024x384) ![0, 128] S1024x128.size inb_S1024x384_S1024x128_0_128).toLoadRect f4)
      (View.readAt (Elt F) arg3.view (Rect.unit (s := S1024x2560) ![0, 1408] S1024x128.size inb_S1024x2560_S1024x128_0_1408).toLoadRect f3)
      (arg3.view.read (Elt F) f3) (arg4.view.read (Elt F) f4) (fun _ => rfl) (fun _ => rfl), ?_⟩
    refine List.forall_mem_cons.2 ⟨lowTile_block 10 128 2 (by decide) (by decide) 32#32 rfl iota_S1024x128_d1_w32 natLt_1_32 shapeCasts_S1024x128_S1024x128x1
      shapeCasts_S1024x128x1_S1024x128 bitsLt_fp8e4m3_f32 bitsLt_bf16_f32 bitcasts_S1024x128_w8_S256x128_w32 bitcasts_S256x128_w32_S1024x128_w8
      bitsLt_fp8e4m3_bf16 shapeCasts_S1024x128_S1024x128 inb_S1024x2560_S1024x128_0_1280 inb_S1024x384_S1024x128_0_128
      (View.readAt (Elt F) arg4.view (Rect.unit (s := S1024x384) ![0, 128] S1024x128.size inb_S1024x384_S1024x128_0_128).toLoadRect f4)
      (View.readAt (Elt F) arg3.view (Rect.unit (s := S1024x2560) ![0, 1280] S1024x128.size inb_S1024x2560_S1024x128_0_1280).toLoadRect f3)
      (arg3.view.read (Elt F) f3) (arg4.view.read (Elt F) f4) (fun _ => rfl) (fun _ => rfl), ?_⟩
    refine List.forall_mem_cons.2 ⟨lowTile_block 9 128 1 (by decide) (by decide) 16#32 rfl iota_S1024x128_d1_w32 natLt_1_32 shapeCasts_S1024x128_S1024x128x1
      shapeCasts_S1024x128x1_S1024x128 bitsLt_fp8e4m3_f32 bitsLt_bf16_f32 bitcasts_S1024x128_w8_S256x128_w32 bitcasts_S256x128_w32_S1024x128_w8
      bitsLt_fp8e4m3_bf16 shapeCasts_S1024x128_S1024x128 inb_S1024x2560_S1024x128_0_1152 inb_S1024x384_S1024x128_0_128
      (View.readAt (Elt F) arg4.view (Rect.unit (s := S1024x384) ![0, 128] S1024x128.size inb_S1024x384_S1024x128_0_128).toLoadRect f4)
      (View.readAt (Elt F) arg3.view (Rect.unit (s := S1024x2560) ![0, 1152] S1024x128.size inb_S1024x2560_S1024x128_0_1152).toLoadRect f3)
      (arg3.view.read (Elt F) f3) (arg4.view.read (Elt F) f4) (fun _ => rfl) (fun _ => rfl), ?_⟩
    refine List.forall_mem_cons.2 ⟨lowTile_block 8 128 0 (by decide) (by decide) 0#32 rfl iota_S1024x128_d1_w32 natLt_1_32 shapeCasts_S1024x128_S1024x128x1
      shapeCasts_S1024x128x1_S1024x128 bitsLt_fp8e4m3_f32 bitsLt_bf16_f32 bitcasts_S1024x128_w8_S256x128_w32 bitcasts_S256x128_w32_S1024x128_w8
      bitsLt_fp8e4m3_bf16 shapeCasts_S1024x128_S1024x128 inb_S1024x2560_S1024x128_0_1024 inb_S1024x384_S1024x128_0_128
      (View.readAt (Elt F) arg4.view (Rect.unit (s := S1024x384) ![0, 128] S1024x128.size inb_S1024x384_S1024x128_0_128).toLoadRect f4)
      (View.readAt (Elt F) arg3.view (Rect.unit (s := S1024x2560) ![0, 1024] S1024x128.size inb_S1024x2560_S1024x128_0_1024).toLoadRect f3)
      (arg3.view.read (Elt F) f3) (arg4.view.read (Elt F) f4) (fun _ => rfl) (fun _ => rfl), ?_⟩
    refine List.forall_mem_cons.2 ⟨lowTile_block 7 0 7 (by decide) (by decide) 112#32 rfl iota_S1024x128_d1_w32 natLt_1_32 shapeCasts_S1024x128_S1024x128x1
      shapeCasts_S1024x128x1_S1024x128 bitsLt_fp8e4m3_f32 bitsLt_bf16_f32 bitcasts_S1024x128_w8_S256x128_w32 bitcasts_S256x128_w32_S1024x128_w8
      bitsLt_fp8e4m3_bf16 shapeCasts_S1024x128_S1024x128 inb_S1024x2560_S1024x128_0_896 inb_S1024x384_S1024x128_0_0
      (View.readAt (Elt F) arg4.view (Rect.unit (s := S1024x384) ![0, 0] S1024x128.size inb_S1024x384_S1024x128_0_0).toLoadRect f4)
      (View.readAt (Elt F) arg3.view (Rect.unit (s := S1024x2560) ![0, 896] S1024x128.size inb_S1024x2560_S1024x128_0_896).toLoadRect f3)
      (arg3.view.read (Elt F) f3) (arg4.view.read (Elt F) f4) (fun _ => rfl) (fun _ => rfl), ?_⟩
    refine List.forall_mem_cons.2 ⟨lowTile_block 6 0 6 (by decide) (by decide) 96#32 rfl iota_S1024x128_d1_w32 natLt_1_32 shapeCasts_S1024x128_S1024x128x1
      shapeCasts_S1024x128x1_S1024x128 bitsLt_fp8e4m3_f32 bitsLt_bf16_f32 bitcasts_S1024x128_w8_S256x128_w32 bitcasts_S256x128_w32_S1024x128_w8
      bitsLt_fp8e4m3_bf16 shapeCasts_S1024x128_S1024x128 inb_S1024x2560_S1024x128_0_768 inb_S1024x384_S1024x128_0_0
      (View.readAt (Elt F) arg4.view (Rect.unit (s := S1024x384) ![0, 0] S1024x128.size inb_S1024x384_S1024x128_0_0).toLoadRect f4)
      (View.readAt (Elt F) arg3.view (Rect.unit (s := S1024x2560) ![0, 768] S1024x128.size inb_S1024x2560_S1024x128_0_768).toLoadRect f3)
      (arg3.view.read (Elt F) f3) (arg4.view.read (Elt F) f4) (fun _ => rfl) (fun _ => rfl), ?_⟩
    refine List.forall_mem_cons.2 ⟨lowTile_block 5 0 5 (by decide) (by decide) 80#32 rfl iota_S1024x128_d1_w32 natLt_1_32 shapeCasts_S1024x128_S1024x128x1
      shapeCasts_S1024x128x1_S1024x128 bitsLt_fp8e4m3_f32 bitsLt_bf16_f32 bitcasts_S1024x128_w8_S256x128_w32 bitcasts_S256x128_w32_S1024x128_w8
      bitsLt_fp8e4m3_bf16 shapeCasts_S1024x128_S1024x128 inb_S1024x2560_S1024x128_0_640 inb_S1024x384_S1024x128_0_0
      (View.readAt (Elt F) arg4.view (Rect.unit (s := S1024x384) ![0, 0] S1024x128.size inb_S1024x384_S1024x128_0_0).toLoadRect f4)
      (View.readAt (Elt F) arg3.view (Rect.unit (s := S1024x2560) ![0, 640] S1024x128.size inb_S1024x2560_S1024x128_0_640).toLoadRect f3)
      (arg3.view.read (Elt F) f3) (arg4.view.read (Elt F) f4) (fun _ => rfl) (fun _ => rfl), ?_⟩
    refine List.forall_mem_cons.2 ⟨lowTile_block 4 0 4 (by decide) (by decide) 64#32 rfl iota_S1024x128_d1_w32 natLt_1_32 shapeCasts_S1024x128_S1024x128x1
      shapeCasts_S1024x128x1_S1024x128 bitsLt_fp8e4m3_f32 bitsLt_bf16_f32 bitcasts_S1024x128_w8_S256x128_w32 bitcasts_S256x128_w32_S1024x128_w8
      bitsLt_fp8e4m3_bf16 shapeCasts_S1024x128_S1024x128 inb_S1024x2560_S1024x128_0_512 inb_S1024x384_S1024x128_0_0
      (View.readAt (Elt F) arg4.view (Rect.unit (s := S1024x384) ![0, 0] S1024x128.size inb_S1024x384_S1024x128_0_0).toLoadRect f4)
      (View.readAt (Elt F) arg3.view (Rect.unit (s := S1024x2560) ![0, 512] S1024x128.size inb_S1024x2560_S1024x128_0_512).toLoadRect f3)
      (arg3.view.read (Elt F) f3) (arg4.view.read (Elt F) f4) (fun _ => rfl) (fun _ => rfl), ?_⟩
    refine List.forall_mem_cons.2 ⟨lowTile_block 3 0 3 (by decide) (by decide) 48#32 rfl iota_S1024x128_d1_w32 natLt_1_32 shapeCasts_S1024x128_S1024x128x1
      shapeCasts_S1024x128x1_S1024x128 bitsLt_fp8e4m3_f32 bitsLt_bf16_f32 bitcasts_S1024x128_w8_S256x128_w32 bitcasts_S256x128_w32_S1024x128_w8
      bitsLt_fp8e4m3_bf16 shapeCasts_S1024x128_S1024x128 inb_S1024x2560_S1024x128_0_384 inb_S1024x384_S1024x128_0_0
      (View.readAt (Elt F) arg4.view (Rect.unit (s := S1024x384) ![0, 0] S1024x128.size inb_S1024x384_S1024x128_0_0).toLoadRect f4)
      (View.readAt (Elt F) arg3.view (Rect.unit (s := S1024x2560) ![0, 384] S1024x128.size inb_S1024x2560_S1024x128_0_384).toLoadRect f3)
      (arg3.view.read (Elt F) f3) (arg4.view.read (Elt F) f4) (fun _ => rfl) (fun _ => rfl), ?_⟩
    refine List.forall_mem_cons.2 ⟨lowTile_block 2 0 2 (by decide) (by decide) 32#32 rfl iota_S1024x128_d1_w32 natLt_1_32 shapeCasts_S1024x128_S1024x128x1
      shapeCasts_S1024x128x1_S1024x128 bitsLt_fp8e4m3_f32 bitsLt_bf16_f32 bitcasts_S1024x128_w8_S256x128_w32 bitcasts_S256x128_w32_S1024x128_w8
      bitsLt_fp8e4m3_bf16 shapeCasts_S1024x128_S1024x128 inb_S1024x2560_S1024x128_0_256 inb_S1024x384_S1024x128_0_0
      (View.readAt (Elt F) arg4.view (Rect.unit (s := S1024x384) ![0, 0] S1024x128.size inb_S1024x384_S1024x128_0_0).toLoadRect f4)
      (View.readAt (Elt F) arg3.view (Rect.unit (s := S1024x2560) ![0, 256] S1024x128.size inb_S1024x2560_S1024x128_0_256).toLoadRect f3)
      (arg3.view.read (Elt F) f3) (arg4.view.read (Elt F) f4) (fun _ => rfl) (fun _ => rfl), ?_⟩
    refine List.forall_mem_cons.2 ⟨lowTile_block 1 0 1 (by decide) (by decide) 16#32 rfl iota_S1024x128_d1_w32 natLt_1_32 shapeCasts_S1024x128_S1024x128x1
      shapeCasts_S1024x128x1_S1024x128 bitsLt_fp8e4m3_f32 bitsLt_bf16_f32 bitcasts_S1024x128_w8_S256x128_w32 bitcasts_S256x128_w32_S1024x128_w8
      bitsLt_fp8e4m3_bf16 shapeCasts_S1024x128_S1024x128 inb_S1024x2560_S1024x128_0_128 inb_S1024x384_S1024x128_0_0
      (View.readAt (Elt F) arg4.view (Rect.unit (s := S1024x384) ![0, 0] S1024x128.size inb_S1024x384_S1024x128_0_0).toLoadRect f4)
      (View.readAt (Elt F) arg3.view (Rect.unit (s := S1024x2560) ![0, 128] S1024x128.size inb_S1024x2560_S1024x128_0_128).toLoadRect f3)
      (arg3.view.read (Elt F) f3) (arg4.view.read (Elt F) f4) (fun _ => rfl) (fun _ => rfl), ?_⟩
    refine List.forall_mem_cons.2 ⟨lowTile_block 0 0 0 (by decide) (by decide) 0#32 rfl iota_S1024x128_d1_w32 natLt_1_32 shapeCasts_S1024x128_S1024x128x1
      shapeCasts_S1024x128x1_S1024x128 bitsLt_fp8e4m3_f32 bitsLt_bf16_f32 bitcasts_S1024x128_w8_S256x128_w32 bitcasts_S256x128_w32_S1024x128_w8
      bitsLt_fp8e4m3_bf16 shapeCasts_S1024x128_S1024x128 inb_S1024x2560_S1024x128_0_0 inb_S1024x384_S1024x128_0_0
      (View.readAt (Elt F) arg4.view (Rect.unit (s := S1024x384) ![0, 0] S1024x128.size inb_S1024x384_S1024x128_0_0).toLoadRect f4)
      (View.readAt (Elt F) arg3.view (Rect.unit (s := S1024x2560) ![0, 0] S1024x128.size inb_S1024x2560_S1024x128_0_0).toLoadRect f3)
      (arg3.view.read (Elt F) f3) (arg4.view.read (Elt F) f4) (fun _ => rfl) (fun _ => rfl), ?_⟩
    exact fun _ h => absurd h List.not_mem_nil
  have hv7 : sound_kernel.sl.v1343 c arg3 arg4 arg7 f3 f4 = wLow (arg3.view.read (Elt F) f3) (arg4.view.read (Elt F) f4) := by
    refine (View.readAt_full _ _ _).trans (funext fun y => ?_)
    exact View.read_writes_apply_of_pieces _ _ _ _ hp7 y (View.cover_of_tiled (s := S1024x2560) _ ![1024, 128] rfl y)
  have hp8 : ∀ p ∈ sound_kernel.sl.H8_20 c arg3 arg4 f3 f4, ∀ x : p.1.shape.Idx,
      p.2 x = wHigh (arg3.view.read (Elt F) f3) (arg4.view.read (Elt F) f4) (p.1.emb x) := by
    refine List.forall_mem_cons.2 ⟨highTile_block 19 256 3 (by decide) (by decide) 48#32 rfl iota_S1024x128_d1_w32 natLt_1_32 shapeCasts_S1024x128_S1024x128x1
      shapeCasts_S1024x128x1_S1024x128 bitsLt_fp8e4m3_f32 bitsLt_bf16_f32 bitcasts_S1024x128_w8_S256x128_w32 bitcasts_S256x128_w32_S1024x128_w8
      bitsLt_fp8e4m3_bf16 shapeCasts_S1024x128_S1024x128 inb_S1024x2560_S1024x128_0_2432 inb_S1024x384_S1024x128_0_256
      (View.readAt (Elt F) arg4.view (Rect.unit (s := S1024x384) ![0, 256] S1024x128.size inb_S1024x384_S1024x128_0_256).toLoadRect f4)
      (View.readAt (Elt F) arg3.view (Rect.unit (s := S1024x2560) ![0, 2432] S1024x128.size inb_S1024x2560_S1024x128_0_2432).toLoadRect f3)
      (arg3.view.read (Elt F) f3) (arg4.view.read (Elt F) f4) (fun _ => rfl) (fun _ => rfl), ?_⟩
    refine List.forall_mem_cons.2 ⟨highTile_block 18 256 2 (by decide) (by decide) 32#32 rfl iota_S1024x128_d1_w32 natLt_1_32 shapeCasts_S1024x128_S1024x128x1
      shapeCasts_S1024x128x1_S1024x128 bitsLt_fp8e4m3_f32 bitsLt_bf16_f32 bitcasts_S1024x128_w8_S256x128_w32 bitcasts_S256x128_w32_S1024x128_w8
      bitsLt_fp8e4m3_bf16 shapeCasts_S1024x128_S1024x128 inb_S1024x2560_S1024x128_0_2304 inb_S1024x384_S1024x128_0_256
      (View.readAt (Elt F) arg4.view (Rect.unit (s := S1024x384) ![0, 256] S1024x128.size inb_S1024x384_S1024x128_0_256).toLoadRect f4)
      (View.readAt (Elt F) arg3.view (Rect.unit (s := S1024x2560) ![0, 2304] S1024x128.size inb_S1024x2560_S1024x128_0_2304).toLoadRect f3)
      (arg3.view.read (Elt F) f3) (arg4.view.read (Elt F) f4) (fun _ => rfl) (fun _ => rfl), ?_⟩
    refine List.forall_mem_cons.2 ⟨highTile_block 17 256 1 (by decide) (by decide) 16#32 rfl iota_S1024x128_d1_w32 natLt_1_32 shapeCasts_S1024x128_S1024x128x1
      shapeCasts_S1024x128x1_S1024x128 bitsLt_fp8e4m3_f32 bitsLt_bf16_f32 bitcasts_S1024x128_w8_S256x128_w32 bitcasts_S256x128_w32_S1024x128_w8
      bitsLt_fp8e4m3_bf16 shapeCasts_S1024x128_S1024x128 inb_S1024x2560_S1024x128_0_2176 inb_S1024x384_S1024x128_0_256
      (View.readAt (Elt F) arg4.view (Rect.unit (s := S1024x384) ![0, 256] S1024x128.size inb_S1024x384_S1024x128_0_256).toLoadRect f4)
      (View.readAt (Elt F) arg3.view (Rect.unit (s := S1024x2560) ![0, 2176] S1024x128.size inb_S1024x2560_S1024x128_0_2176).toLoadRect f3)
      (arg3.view.read (Elt F) f3) (arg4.view.read (Elt F) f4) (fun _ => rfl) (fun _ => rfl), ?_⟩
    refine List.forall_mem_cons.2 ⟨highTile_block 16 256 0 (by decide) (by decide) 0#32 rfl iota_S1024x128_d1_w32 natLt_1_32 shapeCasts_S1024x128_S1024x128x1
      shapeCasts_S1024x128x1_S1024x128 bitsLt_fp8e4m3_f32 bitsLt_bf16_f32 bitcasts_S1024x128_w8_S256x128_w32 bitcasts_S256x128_w32_S1024x128_w8
      bitsLt_fp8e4m3_bf16 shapeCasts_S1024x128_S1024x128 inb_S1024x2560_S1024x128_0_2048 inb_S1024x384_S1024x128_0_256
      (View.readAt (Elt F) arg4.view (Rect.unit (s := S1024x384) ![0, 256] S1024x128.size inb_S1024x384_S1024x128_0_256).toLoadRect f4)
      (View.readAt (Elt F) arg3.view (Rect.unit (s := S1024x2560) ![0, 2048] S1024x128.size inb_S1024x2560_S1024x128_0_2048).toLoadRect f3)
      (arg3.view.read (Elt F) f3) (arg4.view.read (Elt F) f4) (fun _ => rfl) (fun _ => rfl), ?_⟩
    refine List.forall_mem_cons.2 ⟨highTile_block 15 128 7 (by decide) (by decide) 112#32 rfl iota_S1024x128_d1_w32 natLt_1_32 shapeCasts_S1024x128_S1024x128x1
      shapeCasts_S1024x128x1_S1024x128 bitsLt_fp8e4m3_f32 bitsLt_bf16_f32 bitcasts_S1024x128_w8_S256x128_w32 bitcasts_S256x128_w32_S1024x128_w8
      bitsLt_fp8e4m3_bf16 shapeCasts_S1024x128_S1024x128 inb_S1024x2560_S1024x128_0_1920 inb_S1024x384_S1024x128_0_128
      (View.readAt (Elt F) arg4.view (Rect.unit (s := S1024x384) ![0, 128] S1024x128.size inb_S1024x384_S1024x128_0_128).toLoadRect f4)
      (View.readAt (Elt F) arg3.view (Rect.unit (s := S1024x2560) ![0, 1920] S1024x128.size inb_S1024x2560_S1024x128_0_1920).toLoadRect f3)
      (arg3.view.read (Elt F) f3) (arg4.view.read (Elt F) f4) (fun _ => rfl) (fun _ => rfl), ?_⟩
    refine List.forall_mem_cons.2 ⟨highTile_block 14 128 6 (by decide) (by decide) 96#32 rfl iota_S1024x128_d1_w32 natLt_1_32 shapeCasts_S1024x128_S1024x128x1
      shapeCasts_S1024x128x1_S1024x128 bitsLt_fp8e4m3_f32 bitsLt_bf16_f32 bitcasts_S1024x128_w8_S256x128_w32 bitcasts_S256x128_w32_S1024x128_w8
      bitsLt_fp8e4m3_bf16 shapeCasts_S1024x128_S1024x128 inb_S1024x2560_S1024x128_0_1792 inb_S1024x384_S1024x128_0_128
      (View.readAt (Elt F) arg4.view (Rect.unit (s := S1024x384) ![0, 128] S1024x128.size inb_S1024x384_S1024x128_0_128).toLoadRect f4)
      (View.readAt (Elt F) arg3.view (Rect.unit (s := S1024x2560) ![0, 1792] S1024x128.size inb_S1024x2560_S1024x128_0_1792).toLoadRect f3)
      (arg3.view.read (Elt F) f3) (arg4.view.read (Elt F) f4) (fun _ => rfl) (fun _ => rfl), ?_⟩
    refine List.forall_mem_cons.2 ⟨highTile_block 13 128 5 (by decide) (by decide) 80#32 rfl iota_S1024x128_d1_w32 natLt_1_32 shapeCasts_S1024x128_S1024x128x1
      shapeCasts_S1024x128x1_S1024x128 bitsLt_fp8e4m3_f32 bitsLt_bf16_f32 bitcasts_S1024x128_w8_S256x128_w32 bitcasts_S256x128_w32_S1024x128_w8
      bitsLt_fp8e4m3_bf16 shapeCasts_S1024x128_S1024x128 inb_S1024x2560_S1024x128_0_1664 inb_S1024x384_S1024x128_0_128
      (View.readAt (Elt F) arg4.view (Rect.unit (s := S1024x384) ![0, 128] S1024x128.size inb_S1024x384_S1024x128_0_128).toLoadRect f4)
      (View.readAt (Elt F) arg3.view (Rect.unit (s := S1024x2560) ![0, 1664] S1024x128.size inb_S1024x2560_S1024x128_0_1664).toLoadRect f3)
      (arg3.view.read (Elt F) f3) (arg4.view.read (Elt F) f4) (fun _ => rfl) (fun _ => rfl), ?_⟩
    refine List.forall_mem_cons.2 ⟨highTile_block 12 128 4 (by decide) (by decide) 64#32 rfl iota_S1024x128_d1_w32 natLt_1_32 shapeCasts_S1024x128_S1024x128x1
      shapeCasts_S1024x128x1_S1024x128 bitsLt_fp8e4m3_f32 bitsLt_bf16_f32 bitcasts_S1024x128_w8_S256x128_w32 bitcasts_S256x128_w32_S1024x128_w8
      bitsLt_fp8e4m3_bf16 shapeCasts_S1024x128_S1024x128 inb_S1024x2560_S1024x128_0_1536 inb_S1024x384_S1024x128_0_128
      (View.readAt (Elt F) arg4.view (Rect.unit (s := S1024x384) ![0, 128] S1024x128.size inb_S1024x384_S1024x128_0_128).toLoadRect f4)
      (View.readAt (Elt F) arg3.view (Rect.unit (s := S1024x2560) ![0, 1536] S1024x128.size inb_S1024x2560_S1024x128_0_1536).toLoadRect f3)
      (arg3.view.read (Elt F) f3) (arg4.view.read (Elt F) f4) (fun _ => rfl) (fun _ => rfl), ?_⟩
    refine List.forall_mem_cons.2 ⟨highTile_block 11 128 3 (by decide) (by decide) 48#32 rfl iota_S1024x128_d1_w32 natLt_1_32 shapeCasts_S1024x128_S1024x128x1
      shapeCasts_S1024x128x1_S1024x128 bitsLt_fp8e4m3_f32 bitsLt_bf16_f32 bitcasts_S1024x128_w8_S256x128_w32 bitcasts_S256x128_w32_S1024x128_w8
      bitsLt_fp8e4m3_bf16 shapeCasts_S1024x128_S1024x128 inb_S1024x2560_S1024x128_0_1408 inb_S1024x384_S1024x128_0_128
      (View.readAt (Elt F) arg4.view (Rect.unit (s := S1024x384) ![0, 128] S1024x128.size inb_S1024x384_S1024x128_0_128).toLoadRect f4)
      (View.readAt (Elt F) arg3.view (Rect.unit (s := S1024x2560) ![0, 1408] S1024x128.size inb_S1024x2560_S1024x128_0_1408).toLoadRect f3)
      (arg3.view.read (Elt F) f3) (arg4.view.read (Elt F) f4) (fun _ => rfl) (fun _ => rfl), ?_⟩
    refine List.forall_mem_cons.2 ⟨highTile_block 10 128 2 (by decide) (by decide) 32#32 rfl iota_S1024x128_d1_w32 natLt_1_32 shapeCasts_S1024x128_S1024x128x1
      shapeCasts_S1024x128x1_S1024x128 bitsLt_fp8e4m3_f32 bitsLt_bf16_f32 bitcasts_S1024x128_w8_S256x128_w32 bitcasts_S256x128_w32_S1024x128_w8
      bitsLt_fp8e4m3_bf16 shapeCasts_S1024x128_S1024x128 inb_S1024x2560_S1024x128_0_1280 inb_S1024x384_S1024x128_0_128
      (View.readAt (Elt F) arg4.view (Rect.unit (s := S1024x384) ![0, 128] S1024x128.size inb_S1024x384_S1024x128_0_128).toLoadRect f4)
      (View.readAt (Elt F) arg3.view (Rect.unit (s := S1024x2560) ![0, 1280] S1024x128.size inb_S1024x2560_S1024x128_0_1280).toLoadRect f3)
      (arg3.view.read (Elt F) f3) (arg4.view.read (Elt F) f4) (fun _ => rfl) (fun _ => rfl), ?_⟩
    refine List.forall_mem_cons.2 ⟨highTile_block 9 128 1 (by decide) (by decide) 16#32 rfl iota_S1024x128_d1_w32 natLt_1_32 shapeCasts_S1024x128_S1024x128x1
      shapeCasts_S1024x128x1_S1024x128 bitsLt_fp8e4m3_f32 bitsLt_bf16_f32 bitcasts_S1024x128_w8_S256x128_w32 bitcasts_S256x128_w32_S1024x128_w8
      bitsLt_fp8e4m3_bf16 shapeCasts_S1024x128_S1024x128 inb_S1024x2560_S1024x128_0_1152 inb_S1024x384_S1024x128_0_128
      (View.readAt (Elt F) arg4.view (Rect.unit (s := S1024x384) ![0, 128] S1024x128.size inb_S1024x384_S1024x128_0_128).toLoadRect f4)
      (View.readAt (Elt F) arg3.view (Rect.unit (s := S1024x2560) ![0, 1152] S1024x128.size inb_S1024x2560_S1024x128_0_1152).toLoadRect f3)
      (arg3.view.read (Elt F) f3) (arg4.view.read (Elt F) f4) (fun _ => rfl) (fun _ => rfl), ?_⟩
    refine List.forall_mem_cons.2 ⟨highTile_block 8 128 0 (by decide) (by decide) 0#32 rfl iota_S1024x128_d1_w32 natLt_1_32 shapeCasts_S1024x128_S1024x128x1
      shapeCasts_S1024x128x1_S1024x128 bitsLt_fp8e4m3_f32 bitsLt_bf16_f32 bitcasts_S1024x128_w8_S256x128_w32 bitcasts_S256x128_w32_S1024x128_w8
      bitsLt_fp8e4m3_bf16 shapeCasts_S1024x128_S1024x128 inb_S1024x2560_S1024x128_0_1024 inb_S1024x384_S1024x128_0_128
      (View.readAt (Elt F) arg4.view (Rect.unit (s := S1024x384) ![0, 128] S1024x128.size inb_S1024x384_S1024x128_0_128).toLoadRect f4)
      (View.readAt (Elt F) arg3.view (Rect.unit (s := S1024x2560) ![0, 1024] S1024x128.size inb_S1024x2560_S1024x128_0_1024).toLoadRect f3)
      (arg3.view.read (Elt F) f3) (arg4.view.read (Elt F) f4) (fun _ => rfl) (fun _ => rfl), ?_⟩
    refine List.forall_mem_cons.2 ⟨highTile_block 7 0 7 (by decide) (by decide) 112#32 rfl iota_S1024x128_d1_w32 natLt_1_32 shapeCasts_S1024x128_S1024x128x1
      shapeCasts_S1024x128x1_S1024x128 bitsLt_fp8e4m3_f32 bitsLt_bf16_f32 bitcasts_S1024x128_w8_S256x128_w32 bitcasts_S256x128_w32_S1024x128_w8
      bitsLt_fp8e4m3_bf16 shapeCasts_S1024x128_S1024x128 inb_S1024x2560_S1024x128_0_896 inb_S1024x384_S1024x128_0_0
      (View.readAt (Elt F) arg4.view (Rect.unit (s := S1024x384) ![0, 0] S1024x128.size inb_S1024x384_S1024x128_0_0).toLoadRect f4)
      (View.readAt (Elt F) arg3.view (Rect.unit (s := S1024x2560) ![0, 896] S1024x128.size inb_S1024x2560_S1024x128_0_896).toLoadRect f3)
      (arg3.view.read (Elt F) f3) (arg4.view.read (Elt F) f4) (fun _ => rfl) (fun _ => rfl), ?_⟩
    refine List.forall_mem_cons.2 ⟨highTile_block 6 0 6 (by decide) (by decide) 96#32 rfl iota_S1024x128_d1_w32 natLt_1_32 shapeCasts_S1024x128_S1024x128x1
      shapeCasts_S1024x128x1_S1024x128 bitsLt_fp8e4m3_f32 bitsLt_bf16_f32 bitcasts_S1024x128_w8_S256x128_w32 bitcasts_S256x128_w32_S1024x128_w8
      bitsLt_fp8e4m3_bf16 shapeCasts_S1024x128_S1024x128 inb_S1024x2560_S1024x128_0_768 inb_S1024x384_S1024x128_0_0
      (View.readAt (Elt F) arg4.view (Rect.unit (s := S1024x384) ![0, 0] S1024x128.size inb_S1024x384_S1024x128_0_0).toLoadRect f4)
      (View.readAt (Elt F) arg3.view (Rect.unit (s := S1024x2560) ![0, 768] S1024x128.size inb_S1024x2560_S1024x128_0_768).toLoadRect f3)
      (arg3.view.read (Elt F) f3) (arg4.view.read (Elt F) f4) (fun _ => rfl) (fun _ => rfl), ?_⟩
    refine List.forall_mem_cons.2 ⟨highTile_block 5 0 5 (by decide) (by decide) 80#32 rfl iota_S1024x128_d1_w32 natLt_1_32 shapeCasts_S1024x128_S1024x128x1
      shapeCasts_S1024x128x1_S1024x128 bitsLt_fp8e4m3_f32 bitsLt_bf16_f32 bitcasts_S1024x128_w8_S256x128_w32 bitcasts_S256x128_w32_S1024x128_w8
      bitsLt_fp8e4m3_bf16 shapeCasts_S1024x128_S1024x128 inb_S1024x2560_S1024x128_0_640 inb_S1024x384_S1024x128_0_0
      (View.readAt (Elt F) arg4.view (Rect.unit (s := S1024x384) ![0, 0] S1024x128.size inb_S1024x384_S1024x128_0_0).toLoadRect f4)
      (View.readAt (Elt F) arg3.view (Rect.unit (s := S1024x2560) ![0, 640] S1024x128.size inb_S1024x2560_S1024x128_0_640).toLoadRect f3)
      (arg3.view.read (Elt F) f3) (arg4.view.read (Elt F) f4) (fun _ => rfl) (fun _ => rfl), ?_⟩
    refine List.forall_mem_cons.2 ⟨highTile_block 4 0 4 (by decide) (by decide) 64#32 rfl iota_S1024x128_d1_w32 natLt_1_32 shapeCasts_S1024x128_S1024x128x1
      shapeCasts_S1024x128x1_S1024x128 bitsLt_fp8e4m3_f32 bitsLt_bf16_f32 bitcasts_S1024x128_w8_S256x128_w32 bitcasts_S256x128_w32_S1024x128_w8
      bitsLt_fp8e4m3_bf16 shapeCasts_S1024x128_S1024x128 inb_S1024x2560_S1024x128_0_512 inb_S1024x384_S1024x128_0_0
      (View.readAt (Elt F) arg4.view (Rect.unit (s := S1024x384) ![0, 0] S1024x128.size inb_S1024x384_S1024x128_0_0).toLoadRect f4)
      (View.readAt (Elt F) arg3.view (Rect.unit (s := S1024x2560) ![0, 512] S1024x128.size inb_S1024x2560_S1024x128_0_512).toLoadRect f3)
      (arg3.view.read (Elt F) f3) (arg4.view.read (Elt F) f4) (fun _ => rfl) (fun _ => rfl), ?_⟩
    refine List.forall_mem_cons.2 ⟨highTile_block 3 0 3 (by decide) (by decide) 48#32 rfl iota_S1024x128_d1_w32 natLt_1_32 shapeCasts_S1024x128_S1024x128x1
      shapeCasts_S1024x128x1_S1024x128 bitsLt_fp8e4m3_f32 bitsLt_bf16_f32 bitcasts_S1024x128_w8_S256x128_w32 bitcasts_S256x128_w32_S1024x128_w8
      bitsLt_fp8e4m3_bf16 shapeCasts_S1024x128_S1024x128 inb_S1024x2560_S1024x128_0_384 inb_S1024x384_S1024x128_0_0
      (View.readAt (Elt F) arg4.view (Rect.unit (s := S1024x384) ![0, 0] S1024x128.size inb_S1024x384_S1024x128_0_0).toLoadRect f4)
      (View.readAt (Elt F) arg3.view (Rect.unit (s := S1024x2560) ![0, 384] S1024x128.size inb_S1024x2560_S1024x128_0_384).toLoadRect f3)
      (arg3.view.read (Elt F) f3) (arg4.view.read (Elt F) f4) (fun _ => rfl) (fun _ => rfl), ?_⟩
    refine List.forall_mem_cons.2 ⟨highTile_block 2 0 2 (by decide) (by decide) 32#32 rfl iota_S1024x128_d1_w32 natLt_1_32 shapeCasts_S1024x128_S1024x128x1
      shapeCasts_S1024x128x1_S1024x128 bitsLt_fp8e4m3_f32 bitsLt_bf16_f32 bitcasts_S1024x128_w8_S256x128_w32 bitcasts_S256x128_w32_S1024x128_w8
      bitsLt_fp8e4m3_bf16 shapeCasts_S1024x128_S1024x128 inb_S1024x2560_S1024x128_0_256 inb_S1024x384_S1024x128_0_0
      (View.readAt (Elt F) arg4.view (Rect.unit (s := S1024x384) ![0, 0] S1024x128.size inb_S1024x384_S1024x128_0_0).toLoadRect f4)
      (View.readAt (Elt F) arg3.view (Rect.unit (s := S1024x2560) ![0, 256] S1024x128.size inb_S1024x2560_S1024x128_0_256).toLoadRect f3)
      (arg3.view.read (Elt F) f3) (arg4.view.read (Elt F) f4) (fun _ => rfl) (fun _ => rfl), ?_⟩
    refine List.forall_mem_cons.2 ⟨highTile_block 1 0 1 (by decide) (by decide) 16#32 rfl iota_S1024x128_d1_w32 natLt_1_32 shapeCasts_S1024x128_S1024x128x1
      shapeCasts_S1024x128x1_S1024x128 bitsLt_fp8e4m3_f32 bitsLt_bf16_f32 bitcasts_S1024x128_w8_S256x128_w32 bitcasts_S256x128_w32_S1024x128_w8
      bitsLt_fp8e4m3_bf16 shapeCasts_S1024x128_S1024x128 inb_S1024x2560_S1024x128_0_128 inb_S1024x384_S1024x128_0_0
      (View.readAt (Elt F) arg4.view (Rect.unit (s := S1024x384) ![0, 0] S1024x128.size inb_S1024x384_S1024x128_0_0).toLoadRect f4)
      (View.readAt (Elt F) arg3.view (Rect.unit (s := S1024x2560) ![0, 128] S1024x128.size inb_S1024x2560_S1024x128_0_128).toLoadRect f3)
      (arg3.view.read (Elt F) f3) (arg4.view.read (Elt F) f4) (fun _ => rfl) (fun _ => rfl), ?_⟩
    refine List.forall_mem_cons.2 ⟨highTile_block 0 0 0 (by decide) (by decide) 0#32 rfl iota_S1024x128_d1_w32 natLt_1_32 shapeCasts_S1024x128_S1024x128x1
      shapeCasts_S1024x128x1_S1024x128 bitsLt_fp8e4m3_f32 bitsLt_bf16_f32 bitcasts_S1024x128_w8_S256x128_w32 bitcasts_S256x128_w32_S1024x128_w8
      bitsLt_fp8e4m3_bf16 shapeCasts_S1024x128_S1024x128 inb_S1024x2560_S1024x128_0_0 inb_S1024x384_S1024x128_0_0
      (View.readAt (Elt F) arg4.view (Rect.unit (s := S1024x384) ![0, 0] S1024x128.size inb_S1024x384_S1024x128_0_0).toLoadRect f4)
      (View.readAt (Elt F) arg3.view (Rect.unit (s := S1024x2560) ![0, 0] S1024x128.size inb_S1024x2560_S1024x128_0_0).toLoadRect f3)
      (arg3.view.read (Elt F) f3) (arg4.view.read (Elt F) f4) (fun _ => rfl) (fun _ => rfl), ?_⟩
    exact fun _ h => absurd h List.not_mem_nil
  have hv8 : sound_kernel.sl.v1347 c arg3 arg4 arg8 f3 f4 = wHigh (arg3.view.read (Elt F) f3) (arg4.view.read (Elt F) f4) := by
    refine (View.readAt_full _ _ _).trans (funext fun y => ?_)
    exact View.read_writes_apply_of_pieces _ _ _ _ hp8 y (View.cover_of_tiled (s := S1024x2560) _ ![1024, 128] rfl y)
  have hv1 : View.readAt (Elt F) arg1.view (Rect.unit (s := S256x2560) ![0, 0] S256x2560.size inb_S256x2560_S256x2560_0_0).toLoadRect f1 = arg1.view.read (Elt F) f1 :=
    View.readAt_full _ _ _
  have hv2 : View.readAt (Elt F) arg2.view (Rect.unit (s := S256x2560) ![0, 0] S256x2560.size inb_S256x2560_S256x2560_0_0).toLoadRect f2 = arg2.view.read (Elt F) f2 :=
    View.readAt_full _ _ _
  have hv5 : sound_kernel.sl.r_54 c arg5 f5 = arg5.view.read (Elt F) f5 (ValueIdx.ix2 0 0) :=
    congrArg (arg5.view.read (Elt F) f5) (funext fun a => Fin.ext (by
      match a with
      | ⟨0, _⟩ => exact Nat.lt_one_iff.1 (Fin.isLt _)
      | ⟨1, _⟩ => exact Nat.lt_one_iff.1 (Fin.isLt _)))
  have hr1 : sound_kernel.sl.r_53 c arg1 f1 = k0_pay143 (arg1.view.read (Elt F) f1) := congrArg k0_pay143 hv1
  rw [hr1, hv7, hv2, hv8, hv5]
  clear hp7 hp8 hr1 hv7 hv2 hv8 hv5 hv1
  sl_step
  iapply Hk
  isplitl [H1]
  · iexists f1; isplitr
    · ipureintro; exact Eq.refl (View.read (Elt F) arg1.view f1)
    iexact H1
  isplitl [H2]
  · iexists f2; isplitr
    · ipureintro; exact Eq.refl (View.read (Elt F) arg2.view f2)
    iexact H2
  isplitl [H3]
  · iexists f3; isplitr
    · ipureintro; exact Eq.refl (View.read (Elt F) arg3.view f3)
    iexact H3
  isplitl [H4]
  · iexists f4; isplitr
    · ipureintro; exact Eq.refl (View.read (Elt F) arg4.view f4)
    iexact H4
  isplitl [H5]
  · iexists f5; isplitr
    · ipureintro; exact Eq.refl (View.read (Elt F) arg5.view f5)
    iexact H5
  isplitl [H6]
  · iexists _; isplitr
    swap; · iexact H6
    ipureintro
    refine funext fun y => View.read_writes_apply_of_pieces _ _ _ _ (List.forall_mem_cons.2 ⟨fun x => ?_, fun _ h => absurd h List.not_mem_nil⟩) y
      (View.cover_of_tiled (s := S256x1024) _ ![256, 1024] rfl y)
    refine congrArg _ (funext fun a => Fin.ext ?_)
    match a with
    | ⟨0, _⟩ => exact (show (x 0).val = 0 + 1 * (x 0).val by omega)
    | ⟨1, _⟩ => exact (show (x 1).val = 0 + 1 * (x 1).val by omega)
  generalize sound_kernel.sl.H7_20 c arg3 arg4 f3 f4 = L7
  generalize sound_kernel.sl.H8_20 c arg3 arg4 f3 f4 = L8
  isplitl [H7]
  · iexists (arg7.view.read (Elt F) (arg7.view.writes (Elt F) f7 L7)); iexists (arg7.view.writes (Elt F) f7 L7); isplitr
    swap; · iexact H7
    ipureintro; exact Eq.refl (arg7.view.read (Elt F) (arg7.view.writes (Elt F) f7 L7))
  · iexists (arg8.view.read (Elt F) (arg8.view.writes (Elt F) f8 L8)); iexists (arg8.view.writes (Elt F) f8 L8); isplitr
    swap; · iexact H8
    ipureintro; exact Eq.refl (arg8.view.read (Elt F) (arg8.view.writes (Elt F) f8 L8))

end Cert.Kernel.Hand

end
-- ==== Proof.KernelRun.lean ====
/-
  The run of the whole program. The block of scales is 384 columns wide over an array of 320, so that the last 64 columns
  of its buffer hold contents nothing names; the body's results do not read them (`outBlk_fill`). From the body
  (KernelBody.lean) at the buffers of each of the 27 points: every execution terminates, the result array is what the
  27 written-back blocks make of it, the arguments are unchanged and every semaphore counter is zero (`run_main`).
-/
module

public import proofs.«01_k».proof.Proof.KernelBody
public import Idealize.ShloMosaic.Lib.Pipeline.Frame

@[expose] public section

set_option maxRecDepth 16384

noncomputable section

namespace Cert.Kernel.Hand

open Cert.Kernel Cert.Kernel.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The scales' block past the array's end -/

/-- At every point the scales' transfer moves all 1024 rows and the first 320 columns. -/
theorem xsize3 : ∀ t : Fin grid0.N, win0_3.xsize (grid0.coords t) 0 = 1024 ∧ win0_3.xsize (grid0.coords t) 1 = 320 := by
  decide +kernel

/-- An index of the scales' block in a column below 320 is moved by the transfer. -/
theorem moved3 (t : Fin grid0.N) (j : S1024x384.Idx) (hj : (j 1).val < 320) : win0_3.moved (grid0.coords t) j = true := by
  refine (win0_3.moved_iff (grid0.coords t) j).mpr fun a => ?_
  match a with
  | ⟨0, _⟩ => exact lt_of_lt_of_eq (j 0).isLt (xsize3 t).1.symm
  | ⟨1, _⟩ => exact lt_of_lt_of_eq hj (xsize3 t).2.symm

/-- There the buffer holds the array's scale, whatever the rest of it holds. -/
theorem fill3 {α : Type} (t : Fin grid0.N) (d d' : S1024x384.Idx → α) (g : (win0_3.xblock (grid0.coords t)).Idx → α)
    (j : S1024x384.Idx) (hj : (j 1).val < 320) :
    win0_3.fill (grid0.coords t) d g j = win0_3.fill (grid0.coords t) d' g j := by
  unfold Window.fill; rw [dif_pos (moved3 t j hj), dif_pos (moved3 t j hj)]

/-- The block of results reads no scale past the array's end. -/
theorem outBlk_fill (t : Fin grid0.N) (x0 x1 : Vec F S256x2560 .bf16) (x2 : Vec F S1024x2560 .i8)
    (d d' : S1024x384.Idx → Elt F .fp8e4m3) (g : (win0_3.xblock (grid0.coords t)).Idx → Elt F .fp8e4m3) (x4 : Vec F S1x1 .f32) :
    outBlk x0 x1 x2 (win0_3.fill (grid0.coords t) d g) x4 = outBlk x0 x1 x2 (win0_3.fill (grid0.coords t) d' g) x4 := by
  have hs : scaleAt (win0_3.fill (grid0.coords t) d g) = scaleAt (win0_3.fill (grid0.coords t) d' g) := by
    funext y
    have hy : (y 1).val < 2560 := (y 1).isLt
    unfold scaleAt
    rw [fill3 t d d' g _ (show (y 1).val / 8 < 320 by omega)]
  have hl : wLow x2 (win0_3.fill (grid0.coords t) d g) = wLow x2 (win0_3.fill (grid0.coords t) d' g) := by
    funext y; unfold wLow; rw [hs]
  have hh : wHigh x2 (win0_3.fill (grid0.coords t) d g) = wHigh x2 (win0_3.fill (grid0.coords t) d' g) := by
    funext y; unfold wHigh; rw [hs]
  unfold outBlk; rw [hl, hh]

/-! ## The proof data -/

/-- The scales' block at point `t`, its columns past the array's end at zero: nothing reads them. -/
def scales (c : Dev nD) (t : Fin cfg0.N) : Vec F S1024x384 .fp8e4m3 :=
  win0_3.fill (grid0.coords t) (fun _ => Scalar.ofBits .fp8e4m3 0#8) (iblk m c 3 t)

/-- The block of results written at point `t`, from that point's blocks of the arguments. -/
def outAt (c : Dev nD) (t : Fin cfg0.N) : Vec F S256x1024 .bf16 :=
  outBlk (iblk m c 0 t) (iblk m c 1 t) (iblk m c 2 t) (scales m c t) (iblk m c 4 t)

/-- After the body at point `t`: each input buffer at its block, the output's at the block of results. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => scales m c t
    | ⟨4, _⟩ => iblk m c 4 t
    | ⟨5, _⟩ => outAt m c t
  Φ _ := Pipeline.ΦA spec0 c
  q _ := fullShare
  owed _ := 0

/-- The scales' buffer before the body: just fetched, the array's part over contents `d`. -/
theorem before_3 (c : Dev nD) (t : Fin cfg0.N) (d) :
    (dats m 0 c).before (3 : Fin 6) t d = win0_3.fill (grid0.coords t) d (iblk m c 3 t) := by
  unfold Dat.before; rw [if_pos (fetch0_3 t)]; rfl

set_option maxHeartbeats 1000000 in
/-- The body's obligation at every point. -/
theorem body_obligation (c : Dev nD) : BodyObligationLoose (dats m 0 c) (defs₀ (F := F)) Variants.none () Set.univ := fun t => by
  rw [bigSep_W0, bigSep_W0]
  simp only
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl]
  unfold Pipeline.ΦA
  rw [scopedRest0_eq]
  iintro ⟨⟨⟨⟨%s0, S0⟩, ⟨%s1, S1⟩⟩, HP⟩, Ho, ⟨%d0, H0⟩, ⟨%d1, H1⟩, ⟨%d2, H2⟩, ⟨%d3, H3⟩, ⟨%d4, H4⟩, ⟨%d5, H5⟩⟩
  rw [before0_0_of m (dats m 0 c) rfl (fun _ => rfl) t d0, before0_1_of m (dats m 0 c) rfl (fun _ => rfl) t d1,
    before0_2_of m (dats m 0 c) rfl (fun _ => rfl) t d2, before_3 m c t d3,
    before0_4_of m (dats m 0 c) rfl (fun _ => rfl) t d4]
  iapply (sound_kernel (F := F) c Set.univ (grid0.coords t) (win0_0.stage (cfg0.slots t 0)) (hstage0_0 ((cfg0.slots t 0).cast nbuf0_0))
    (win0_1.stage (cfg0.slots t 1)) (hstage0_1 ((cfg0.slots t 1).cast nbuf0_1)) (win0_2.stage (cfg0.slots t 2)) (hstage0_2 ((cfg0.slots t 2).cast nbuf0_2))
    (win0_3.stage (cfg0.slots t 3)) (hstage0_3 ((cfg0.slots t 3).cast nbuf0_3)) (win0_4.stage (cfg0.slots t 4)) (hstage0_4 ((cfg0.slots t 4).cast nbuf0_4))
    (win0_5.stage (cfg0.slots t 5)) (hstage0_5 ((cfg0.slots t 5).cast nbuf0_5)) (Memref.whole cc0_scratch0) (Memref.isWhole_whole _) (Memref.whole cc0_scratch1) (Memref.isWhole_whole _)
    (iblk m c 0 t) (iblk m c 1 t) (iblk m c 2 t) (win0_3.fill (grid0.coords t) d3 (iblk m c 3 t)) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [S0]
  · iexists s0; rw [owns_whole_eq]; iexists s0; isplitr; · ipureintro; rfl
    iexact S0
  isplitl [S1]
  · iexists s1; rw [owns_whole_eq]; iexists s1; isplitr; · ipureintro; rfl
    iexact S1
  simp only [owns_whole_eq]
  iintro ⟨H0, H1, H2, H3, H4, H5, ⟨%e0, %f0, -, S0⟩, ⟨%e1, %f1, -, S1⟩⟩
  isplitl [S0 S1 HP]
  · isplitl [S0 S1]
    · isplitl [S0]
      · iexists f0; iexact S0
      · iexists f1; iexact S1
    · iexact HP
  isplitl [Ho]; · iexact Ho
  isplitl [H0]; · iexact H0
  isplitl [H1]; · iexact H1
  isplitl [H2]; · iexact H2
  have hs : win0_3.cut (grid0.coords t) (scales m c t) = iblk m c 3 t := win0_3.cut_fill _ _ _
  isplitl [H3]
  · iexists d3
    change _ ⊢ owns (c : Thread nD τ) (win0_3.stage (cfg0.slots t 3)) fullShare (win0_3.fill (grid0.coords t) d3 (win0_3.cut (grid0.coords t) (scales m c t)))
    rw [hs]; try iexact H3
  isplitl [H4]; · iexact H4
  rw [outBlk_fill t _ _ _ d3 (fun _ => Scalar.ofBits .fp8e4m3 0#8)]
  iexact H5

-- the implicit arguments are found by unifying the conclusion with this one, which takes unfolding plain definitions
set_option backward.isDefEq.respectTransparency.types false in
/-- Every execution terminates; the arrays end as the library computes them and every semaphore counter at zero. -/
theorem run_main : θ_run defs (onTc (τ := τ) (main (F := F))) (s₀ m ρ)
    (fun r => Pipeline.FramePost cfgs (dats m) 0 (V m) r ∧ r.2.sem = fun _ => 0) :=
  Pipeline.θ_run_frame cfgs (dats m) 0 launch0 defs₀ Variants.none m ρ main
    (hbody := body_obligation m)
    (hshare := fun c => (dats m 0 c).share_full fun _ => rfl) (howed := fun _ _ => rfl)
    (V := V m) (hmain := hmain m Variants.none) (hA := fun _ _ => rfl) (hΦ := fun _ _ => rfl)
    (Q' := fun r => Pipeline.FramePost cfgs (dats m) 0 (V m) r ∧ r.2.sem = fun _ => 0) (hQ' := fun _ h => h)

/-- The arguments' buffers after such a run are as launched. -/
theorem args_of (r : PUnit × MemSt nD τ sig (Elt F)) (h : Pipeline.FramePost cfgs (dats m) 0 (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  ⟨((h c).2 main_arg0 (Pipeline.mem_restRefs_of main_arg0 (by decide) (by decide))).trans (V_main_arg0 m c),
    ((h c).1 2).trans (((dats m 0 c).arrAt_in 2 rfl _).trans (V_main_arg1 m c)),
    ((h c).1 3).trans (((dats m 0 c).arrAt_in 3 rfl _).trans (V_main_arg2 m c)),
    ((h c).2 main_arg3 (Pipeline.mem_restRefs_of main_arg3 (by decide) (by decide))).trans (V_main_arg3 m c)⟩

/-- The frame: the program runs, its arguments end unchanged and every semaphore counter at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨args_of m r h.1, h.2⟩) (run_main m ρ)

end Cert.Kernel.Hand

end
-- ==== Proof.KernelIdealBody.lean ====
/-
  The kernel's body, on any buffers: from blocks `x0`, `x1` of activations, `x2` of packed bytes, `x3` of scales and the
  global scale `x4`, the output buffer ends at `outBlk x0 x1 x2 x3 x4`, the inputs unchanged. The two scratch buffers
  are filled tile by tile with the weights of the low and of the high nibbles (Tile.lean), then read whole.
-/
module

public import proofs.«01_k».proof.Proof.Tile
public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.VecWindow
public import Idealize.ShloMosaic.Lib.Pipeline.FrameBody
public import Idealize.ShloMosaic.Lib.Tactic

@[expose] public section

set_option maxRecDepth 16384

noncomputable section

namespace Cert.KernelIdeal.Hand

open Cert.KernelIdeal Cert.KernelIdeal.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The block of results of one point: the activations of even and odd columns against the weights of the low and of
    the high nibbles, the two products added, times the global scale times 64. -/
def outBlk (x0 x1 : Vec F S256x2560 .bf16) (x2 : Vec F S1024x2560 .i8) (x3 : Vec F S1024x384 .fp8e4m3) (x4 : Vec F S1x1 .f32) :
    Vec F S256x1024 .bf16 :=
  k0_pay1 (k0_pay143 x0) (wLow x2 x3) x1 (wHigh x2 x3) (x4 (ValueIdx.ix2 0 0))

set_option maxHeartbeats 4000000 in
theorem sound_kernel (c : Dev nD) (E : Set ℕ) (i : grid0.Coords)
    (arg1 : Memref sig .tc .vmem S256x2560 .bf16) (harg1 : arg1.IsWhole) (arg2 : Memref sig .tc .vmem S256x2560 .bf16) (harg2 : arg2.IsWhole)
    (arg3 : Memref sig .tc .vmem S1024x2560 .i8) (harg3 : arg3.IsWhole) (arg4 : Memref sig .tc .vmem S1024x384 .fp8e4m3) (harg4 : arg4.IsWhole)
    (arg5 : Memref sig .tc .smem S1x1 .f32) (harg5 : arg5.IsWhole) (arg6 : Memref sig .tc .vmem S256x1024 .bf16) (harg6 : arg6.IsWhole)
    (arg7 : Memref sig .tc .vmem S1024x2560 .bf16) (harg7 : arg7.IsWhole) (arg8 : Memref sig .tc .vmem S1024x2560 .bf16) (harg8 : arg8.IsWhole)
    (x0 x1 : Vec F S256x2560 .bf16) (x2 : Vec F S1024x2560 .i8) (x3 : Vec F S1024x384 .fp8e4m3) (x4 : Vec F S1x1 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (outBlk x0 x1 x2 x3 x4) ∗ (∃ d, owns (c : Thread nD τ) arg7 fullShare d) ∗ (∃ d, owns (c : Thread nD τ) arg8 fullShare d)) -∗ K ⟨⟩))
      ⊢ wp frame (wpE (defs₀ (F := F)) Variants.none c none) E
          (cc0__body i arg1 harg1 arg2 harg2 arg3 harg3 arg4 harg4 arg5 harg5 arg6 harg6 arg7 harg7 arg8 harg8) K := by
  simp only [cc0__body_eq_skeleton]; unfold cc0__body_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf1; subst hf2; subst hf3; subst hf4; subst hf5
  sl_exec_parts
  have hp7 : ∀ p ∈ sound_kernel.sl.H7_20 c arg3 arg4 f3 f4, ∀ x : p.1.shape.Idx,
      p.2 x = wLow (arg3.view.read (Elt F) f3) (arg4.view.read (Elt F) f4) (p.1.emb x) := by
    refine List.forall_mem_cons.2 ⟨lowTile_block 19 256 3 (by decide) (by decide) 48#32 rfl iota_S1024x128_d1_w32 natLt_1_32 shapeCasts_S1024x128_S1024x128x1
      shapeCasts_S1024x128x1_S1024x128 bitsLt_fp8e4m3_f32 bitsLt_bf16_f32 bitcasts_S1024x128_w8_S256x128_w32 bitcasts_S256x128_w32_S1024x128_w8
      bitsLt_fp8e4m3_bf16 shapeCasts_S1024x128_S1024x128 inb_S1024x2560_S1024x128_0_2432 inb_S1024x384_S1024x128_0_256
      (View.readAt (Elt F) arg4.view (Rect.unit (s := S1024x384) ![0, 256] S1024x128.size inb_S1024x384_S1024x128_0_256).toLoadRect f4)
      (View.readAt (Elt F) arg3.view (Rect.unit (s := S1024x2560) ![0, 2432] S1024x128.size inb_S1024x2560_S1024x128_0_2432).toLoadRect f3)
      (arg3.view.read (Elt F) f3) (arg4.view.read (Elt F) f4) (fun _ => rfl) (fun _ => rfl), ?_⟩
    refine List.forall_mem_cons.2 ⟨lowTile_block 18 256 2 (by decide) (by decide) 32#32 rfl iota_S1024x128_d1_w32 natLt_1_32 shapeCasts_S1024x128_S1024x128x1
      shapeCasts_S1024x128x1_S1024x128 bitsLt_fp8e4m3_f32 bitsLt_bf16_f32 bitcasts_S1024x128_w8_S256x128_w32 bitcasts_S256x128_w32_S1024x128_w8
      bitsLt_fp8e4m3_bf16 shapeCasts_S1024x128_S1024x128 inb_S1024x2560_S1024x128_0_2304 inb_S1024x384_S1024x128_0_256
      (View.readAt (Elt F) arg4.view (Rect.unit (s := S1024x384) ![0, 256] S1024x128.size inb_S1024x384_S1024x128_0_256).toLoadRect f4)
      (View.readAt (Elt F) arg3.view (Rect.unit (s := S1024x2560) ![0, 2304] S1024x128.size inb_S1024x2560_S1024x128_0_2304).toLoadRect f3)
      (arg3.view.read (Elt F) f3) (arg4.view.read (Elt F) f4) (fun _ => rfl) (fun _ => rfl), ?_⟩
    refine List.forall_mem_cons.2 ⟨lowTile_block 17 256 1 (by decide) (by decide) 16#32 rfl iota_S1024x128_d1_w32 natLt_1_32 shapeCasts_S1024x128_S1024x128x1
      shapeCasts_S1024x128x1_S1024x128 bitsLt_fp8e4m3_f32 bitsLt_bf16_f32 bitcasts_S1024x128_w8_S256x128_w32 bitcasts_S256x128_w32_S1024x128_w8
      bitsLt_fp8e4m3_bf16 shapeCasts_S1024x128_S1024x128 inb_S1024x2560_S1024x128_0_2176 inb_S1024x384_S1024x128_0_256
      (View.readAt (Elt F) arg4.view (Rect.unit (s := S1024x384) ![0, 256] S1024x128.size inb_S1024x384_S1024x128_0_256).toLoadRect f4)
      (View.readAt (Elt F) arg3.view (Rect.unit (s := S1024x2560) ![0, 2176] S1024x128.size inb_S1024x2560_S1024x128_0_2176).toLoadRect f3)
      (arg3.view.read (Elt F) f3) (arg4.view.read (Elt F) f4) (fun _ => rfl) (fun _ => rfl), ?_⟩
    refine List.forall_mem_cons.2 ⟨lowTile_block 16 256 0 (by decide) (by decide) 0#32 rfl iota_S1024x128_d1_w32 natLt_1_32 shapeCasts_S1024x128_S1024x128x1
      shapeCasts_S1024x128x1_S1024x128 bitsLt_fp8e4m3_f32 bitsLt_bf16_f32 bitcasts_S1024x128_w8_S256x128_w32 bitcasts_S256x128_w32_S1024x128_w8
      bitsLt_fp8e4m3_bf16 shapeCasts_S1024x128_S1024x128 inb_S1024x2560_S1024x128_0_2048 inb_S1024x384_S1024x128_0_256
      (View.readAt (Elt F) arg4.view (Rect.unit (s := S1024x384) ![0, 256] S1024x128.size inb_S1024x384_S1024x128_0_256).toLoadRect f4)
      (View.readAt (Elt F) arg3.view (Rect.unit (s := S1024x2560) ![0, 2048] S1024x128.size inb_S1024x2560_S1024x128_0_2048).toLoadRect f3)
      (arg3.view.read (Elt F) f3) (arg4.view.read (Elt F) f4) (fun _ => rfl) (fun _ => rfl), ?_⟩
    refine List.forall_mem_cons.2 ⟨lowTile_block 15 128 7 (by decide) (by decide) 112#32 rfl iota_S1024x128_d1_w32 natLt_1_32 shapeCasts_S1024x128_S1024x128x1
      shapeCasts_S1024x128x1_S1024x128 bitsLt_fp8e4m3_f32 bitsLt_bf16_f32 bitcasts_S1024x128_w8_S256x128_w32 bitcasts_S256x128_w32_S1024x128_w8
      bitsLt_fp8e4m3_bf16 shapeCasts_S1024x128_S1024x128 inb_S1024x2560_S1024x128_0_1920 inb_S1024x384_S1024x128_0_128
      (View.readAt (Elt F) arg4.view (Rect.unit (s := S1024x384) ![0, 128] S1024x128.size inb_S1024x384_S1024x128_0_128).toLoadRect f4)
      (View.readAt (Elt F) arg3.view (Rect.unit (s := S1024x2560) ![0, 1920] S1024x128.size inb_S1024x2560_S1024x128_0_1920).toLoadRect f3)
      (arg3.view.read (Elt F) f3) (arg4.view.read (Elt F) f4) (fun _ => rfl) (fun _ => rfl), ?_⟩
    refine List.forall_mem_cons.2 ⟨lowTile_block 14 128 6 (by decide) (by decide) 96#32 rfl iota_S1024x128_d1_w32 natLt_1_32 shapeCasts_S1024x128_S1024x128x1
      shapeCasts_S1024x128x1_S1024x128 bitsLt_fp8e4m3_f32 bitsLt_bf16_f32 bitcasts_S1024x128_w8_S256x128_w32 bitcasts_S256x128_w32_S1024x128_w8
      bitsLt_fp8e4m3_bf16 shapeCasts_S1024x128_S1024x128 inb_S1024x2560_S1024x128_0_1792 inb_S1024x384_S1024x128_0_128
      (View.readAt (Elt F) arg4.view (Rect.unit (s := S1024x384) ![0, 128] S1024x128.size inb_S1024x384_S1024x128_0_128).toLoadRect f4)
      (View.readAt (Elt F) arg3.view (Rect.unit (s := S1024x2560) ![0, 1792] S1024x128.size inb_S1024x2560_S1024x128_0_1792).toLoadRect f3)
      (arg3.view.read (Elt F) f3) (arg4.view.read (Elt F) f4) (fun _ => rfl) (fun _ => rfl), ?_⟩
    refine List.forall_mem_cons.2 ⟨lowTile_block 13 128 5 (by decide) (by decide) 80#32 rfl iota_S1024x128_d1_w32 natLt_1_32 shapeCasts_S1024x128_S1024x128x1
      shapeCasts_S1024x128x1_S1024x128 bitsLt_fp8e4m3_f32 bitsLt_bf16_f32 bitcasts_S1024x128_w8_S256x128_w32 bitcasts_S256x128_w32_S1024x128_w8
      bitsLt_fp8e4m3_bf16 shapeCasts_S1024x128_S1024x128 inb_S1024x2560_S1024x128_0_1664 inb_S1024x384_S1024x128_0_128
      (View.readAt (Elt F) arg4.view (Rect.unit (s := S1024x384) ![0, 128] S1024x128.size inb_S1024x384_S1024x128_0_128).toLoadRect f4)
      (View.readAt (Elt F) arg3.view (Rect.unit (s := S1024x2560) ![0, 1664] S1024x128.size inb_S1024x2560_S1024x128_0_1664).toLoadRect f3)
      (arg3.view.read (Elt F) f3) (arg4.view.read (Elt F) f4) (fun _ => rfl) (fun _ => rfl), ?_⟩
    refine List.forall_mem_cons.2 ⟨lowTile_block 12 128 4 (by decide) (by decide) 64#32 rfl iota_S1024x128_d1_w32 natLt_1_32 shapeCasts_S1024x128_S1024x128x1
      shapeCasts_S1024x128x1_S1024x128 bitsLt_fp8e4m3_f32 bitsLt_bf16_f32 bitcasts_S1024x128_w8_S256x128_w32 bitcasts_S256x128_w32_S1024x128_w8
      bitsLt_fp8e4m3_bf16 shapeCasts_S1024x128_S1024x128 inb_S1024x2560_S1024x128_0_1536 inb_S1024x384_S1024x128_0_128
      (View.readAt (Elt F) arg4.view (Rect.unit (s := S1024x384) ![0, 128] S1024x128.size inb_S1024x384_S1024x128_0_128).toLoadRect f4)
      (View.readAt (Elt F) arg3.view (Rect.unit (s := S1024x2560) ![0, 1536] S1024x128.size inb_S1024x2560_S1024x128_0_1536).toLoadRect f3)
      (arg3.view.read (Elt F) f3) (arg4.view.read (Elt F) f4) (fun _ => rfl) (fun _ => rfl), ?_⟩
    refine List.forall_mem_cons.2 ⟨lowTile_block 11 128 3 (by decide) (by decide) 48#32 rfl iota_S1024x128_d1_w32 natLt_1_32 shapeCasts_S1024x128_S1024x128x1
      shapeCasts_S1024x128x1_S1024x128 bitsLt_fp8e4m3_f32 bitsLt_bf16_f32 bitcasts_S1024x128_w8_S256x128_w32 bitcasts_S256x128_w32_S1024x128_w8
      bitsLt_fp8e4m3_bf16 shapeCasts_S1024x128_S1024x128 inb_S1024x2560_S1024x128_0_1408 inb_S1024x384_S1024x128_0_128
      (View.readAt (Elt F) arg4.view (Rect.unit (s := S1024x384) ![0, 128] S1024x128.size inb_S1024x384_S1024x128_0_128).toLoadRect f4)
      (View.readAt (Elt F) arg3.view (Rect.unit (s := S1024x2560) ![0, 1408] S1024x128.size inb_S1024x2560_S1024x128_0_1408).toLoadRect f3)
      (arg3.view.read (Elt F) f3) (arg4.view.read (Elt F) f4) (fun _ => rfl) (fun _ => rfl), ?_⟩
    refine List.forall_mem_cons.2 ⟨lowTile_block 10 128 2 (by decide) (by decide) 32#32 rfl iota_S1024x128_d1_w32 natLt_1_32 shapeCasts_S1024x128_S1024x128x1
      shapeCasts_S1024x128x1_S1024x128 bitsLt_fp8e4m3_f32 bitsLt_bf16_f32 bitcasts_S1024x128_w8_S256x128_w32 bitcasts_S256x128_w32_S1024x128_w8
      bitsLt_fp8e4m3_bf16 shapeCasts_S1024x128_S1024x128 inb_S1024x2560_S1024x128_0_1280 inb_S1024x384_S1024x128_0_128
      (View.readAt (Elt F) arg4.view (Rect.unit (s := S1024x384) ![0, 128] S1024x128.size inb_S1024x384_S1024x128_0_128).toLoadRect f4)
      (View.readAt (Elt F) arg3.view (Rect.unit (s := S1024x2560) ![0, 1280] S1024x128.size inb_S1024x2560_S1024x128_0_1280).toLoadRect f3)
      (arg3.view.read (Elt F) f3) (arg4.view.read (Elt F) f4) (fun _ => rfl) (fun _ => rfl), ?_⟩
    refine List.forall_mem_cons.2 ⟨lowTile_block 9 128 1 (by decide) (by decide) 16#32 rfl iota_S1024x128_d1_w32 natLt_1_32 shapeCasts_S1024x128_S1024x128x1
      shapeCasts_S1024x128x1_S1024x128 bitsLt_fp8e4m3_f32 bitsLt_bf16_f32 bitcasts_S1024x128_w8_S256x128_w32 bitcasts_S256x128_w32_S1024x128_w8
      bitsLt_fp8e4m3_bf16 shapeCasts_S1024x128_S1024x128 inb_S1024x2560_S1024x128_0_1152 inb_S1024x384_S1024x128_0_128
      (View.readAt (Elt F) arg4.view (Rect.unit (s := S1024x384) ![0, 128] S1024x128.size inb_S1024x384_S1024x128_0_128).toLoadRect f4)
      (View.readAt (Elt F) arg3.view (Rect.unit (s := S1024x2560) ![0, 1152] S1024x128.size inb_S1024x2560_S1024x128_0_1152).toLoadRect f3)
      (arg3.view.read (Elt F) f3) (arg4.view.read (Elt F) f4) (fun _ => rfl) (fun _ => rfl), ?_⟩
    refine List.forall_mem_cons.2 ⟨lowTile_block 8 128 0 (by decide) (by decide) 0#32 rfl iota_S1024x128_d1_w32 natLt_1_32 shapeCasts_S1024x128_S1024x128x1
      shapeCasts_S1024x128x1_S1024x128 bitsLt_fp8e4m3_f32 bitsLt_bf16_f32 bitcasts_S1024x128_w8_S256x128_w32 bitcasts_S256x128_w32_S1024x128_w8
      bitsLt_fp8e4m3_bf16 shapeCasts_S1024x128_S1024x128 inb_S1024x2560_S1024x128_0_1024 inb_S1024x384_S1024x128_0_128
      (View.readAt (Elt F) arg4.view (Rect.unit (s := S1024x384) ![0, 128] S1024x128.size inb_S1024x384_S1024x128_0_128).toLoadRect f4)
      (View.readAt (Elt F) arg3.view (Rect.unit (s := S1024x2560) ![0, 1024] S1024x128.size inb_S1024x2560_S1024x128_0_1024).toLoadRect f3)
      (arg3.view.read (Elt F) f3) (arg4.view.read (Elt F) f4) (fun _ => rfl) (fun _ => rfl), ?_⟩
    refine List.forall_mem_cons.2 ⟨lowTile_block 7 0 7 (by decide) (by decide) 112#32 rfl iota_S1024x128_d1_w32 natLt_1_32 shapeCasts_S1024x128_S1024x128x1
      shapeCasts_S1024x128x1_S1024x128 bitsLt_fp8e4m3_f32 bitsLt_bf16_f32 bitcasts_S1024x128_w8_S256x128_w32 bitcasts_S256x128_w32_S1024x128_w8
      bitsLt_fp8e4m3_bf16 shapeCasts_S1024x128_S1024x128 inb_S1024x2560_S1024x128_0_896 inb_S1024x384_S1024x128_0_0
      (View.readAt (Elt F) arg4.view (Rect.unit (s := S1024x384) ![0, 0] S1024x128.size inb_S1024x384_S1024x128_0_0).toLoadRect f4)
      (View.readAt (Elt F) arg3.view (Rect.unit (s := S1024x2560) ![0, 896] S1024x128.size inb_S1024x2560_S1024x128_0_896).toLoadRect f3)
      (arg3.view.read (Elt F) f3) (arg4.view.read (Elt F) f4) (fun _ => rfl) (fun _ => rfl), ?_⟩
    refine List.forall_mem_cons.2 ⟨lowTile_block 6 0 6 (by decide) (by decide) 96#32 rfl iota_S1024x128_d1_w32 natLt_1_32 shapeCasts_S1024x128_S1024x128x1
      shapeCasts_S1024x128x1_S1024x128 bitsLt_fp8e4m3_f32 bitsLt_bf16_f32 bitcasts_S1024x128_w8_S256x128_w32 bitcasts_S256x128_w32_S1024x128_w8
      bitsLt_fp8e4m3_bf16 shapeCasts_S1024x128_S1024x128 inb_S1024x2560_S1024x128_0_768 inb_S1024x384_S1024x128_0_0
      (View.readAt (Elt F) arg4.view (Rect.unit (s := S1024x384) ![0, 0] S1024x128.size inb_S1024x384_S1024x128_0_0).toLoadRect f4)
      (View.readAt (Elt F) arg3.view (Rect.unit (s := S1024x2560) ![0, 768] S1024x128.size inb_S1024x2560_S1024x128_0_768).toLoadRect f3)
      (arg3.view.read (Elt F) f3) (arg4.view.read (Elt F) f4) (fun _ => rfl) (fun _ => rfl), ?_⟩
    refine List.forall_mem_cons.2 ⟨lowTile_block 5 0 5 (by decide) (by decide) 80#32 rfl iota_S1024x128_d1_w32 natLt_1_32 shapeCasts_S1024x128_S1024x128x1
      shapeCasts_S1024x128x1_S1024x128 bitsLt_fp8e4m3_f32 bitsLt_bf16_f32 bitcasts_S1024x128_w8_S256x128_w32 bitcasts_S256x128_w32_S1024x128_w8
      bitsLt_fp8e4m3_bf16 shapeCasts_S1024x128_S1024x128 inb_S1024x2560_S1024x128_0_640 inb_S1024x384_S1024x128_0_0
      (View.readAt (Elt F) arg4.view (Rect.unit (s := S1024x384) ![0, 0] S1024x128.size inb_S1024x384_S1024x128_0_0).toLoadRect f4)
      (View.readAt (Elt F) arg3.view (Rect.unit (s := S1024x2560) ![0, 640] S1024x128.size inb_S1024x2560_S1024x128_0_640).toLoadRect f3)
      (arg3.view.read (Elt F) f3) (arg4.view.read (Elt F) f4) (fun _ => rfl) (fun _ => rfl), ?_⟩
    refine List.forall_mem_cons.2 ⟨lowTile_block 4 0 4 (by decide) (by decide) 64#32 rfl iota_S1024x128_d1_w32 natLt_1_32 shapeCasts_S1024x128_S1024x128x1
      shapeCasts_S1024x128x1_S1024x128 bitsLt_fp8e4m3_f32 bitsLt_bf16_f32 bitcasts_S1024x128_w8_S256x128_w32 bitcasts_S256x128_w32_S1024x128_w8
      bitsLt_fp8e4m3_bf16 shapeCasts_S1024x128_S1024x128 inb_S1024x2560_S1024x128_0_512 inb_S1024x384_S1024x128_0_0
      (View.readAt (Elt F) arg4.view (Rect.unit (s := S1024x384) ![0, 0] S1024x128.size inb_S1024x384_S1024x128_0_0).toLoadRect f4)
      (View.readAt (Elt F) arg3.view (Rect.unit (s := S1024x2560) ![0, 512] S1024x128.size inb_S1024x2560_S1024x128_0_512).toLoadRect f3)
      (arg3.view.read (Elt F) f3) (arg4.view.read (Elt F) f4) (fun _ => rfl) (fun _ => rfl), ?_⟩
    refine List.forall_mem_cons.2 ⟨lowTile_block 3 0 3 (by decide) (by decide) 48#32 rfl iota_S1024x128_d1_w32 natLt_1_32 shapeCasts_S1024x128_S1024x128x1
      shapeCasts_S1024x128x1_S1024x128 bitsLt_fp8e4m3_f32 bitsLt_bf16_f32 bitcasts_S1024x128_w8_S256x128_w32 bitcasts_S256x128_w32_S1024x128_w8
      bitsLt_fp8e4m3_bf16 shapeCasts_S1024x128_S1024x128 inb_S1024x2560_S1024x128_0_384 inb_S1024x384_S1024x128_0_0
      (View.readAt (Elt F) arg4.view (Rect.unit (s := S1024x384) ![0, 0] S1024x128.size inb_S1024x384_S1024x128_0_0).toLoadRect f4)
      (View.readAt (Elt F) arg3.view (Rect.unit (s := S1024x2560) ![0, 384] S1024x128.size inb_S1024x2560_S1024x128_0_384).toLoadRect f3)
      (arg3.view.read (Elt F) f3) (arg4.view.read (Elt F) f4) (fun _ => rfl) (fun _ => rfl), ?_⟩
    refine List.forall_mem_cons.2 ⟨lowTile_block 2 0 2 (by decide) (by decide) 32#32 rfl iota_S1024x128_d1_w32 natLt_1_32 shapeCasts_S1024x128_S1024x128x1
      shapeCasts_S1024x128x1_S1024x128 bitsLt_fp8e4m3_f32 bitsLt_bf16_f32 bitcasts_S1024x128_w8_S256x128_w32 bitcasts_S256x128_w32_S1024x128_w8
      bitsLt_fp8e4m3_bf16 shapeCasts_S1024x128_S1024x128 inb_S1024x2560_S1024x128_0_256 inb_S1024x384_S1024x128_0_0
      (View.readAt (Elt F) arg4.view (Rect.unit (s := S1024x384) ![0, 0] S1024x128.size inb_S1024x384_S1024x128_0_0).toLoadRect f4)
      (View.readAt (Elt F) arg3.view (Rect.unit (s := S1024x2560) ![0, 256] S1024x128.size inb_S1024x2560_S1024x128_0_256).toLoadRect f3)
      (arg3.view.read (Elt F) f3) (arg4.view.read (Elt F) f4) (fun _ => rfl) (fun _ => rfl), ?_⟩
    refine List.forall_mem_cons.2 ⟨lowTile_block 1 0 1 (by decide) (by decide) 16#32 rfl iota_S1024x128_d1_w32 natLt_1_32 shapeCasts_S1024x128_S1024x128x1
      shapeCasts_S1024x128x1_S1024x128 bitsLt_fp8e4m3_f32 bitsLt_bf16_f32 bitcasts_S1024x128_w8_S256x128_w32 bitcasts_S256x128_w32_S1024x128_w8
      bitsLt_fp8e4m3_bf16 shapeCasts_S1024x128_S1024x128 inb_S1024x2560_S1024x128_0_128 inb_S1024x384_S1024x128_0_0
      (View.readAt (Elt F) arg4.view (Rect.unit (s := S1024x384) ![0, 0] S1024x128.size inb_S1024x384_S1024x128_0_0).toLoadRect f4)
      (View.readAt (Elt F) arg3.view (Rect.unit (s := S1024x2560) ![0, 128] S1024x128.size inb_S1024x2560_S1024x128_0_128).toLoadRect f3)
      (arg3.view.read (Elt F) f3) (arg4.view.read (Elt F) f4) (fun _ => rfl) (fun _ => rfl), ?_⟩
    refine List.forall_mem_cons.2 ⟨lowTile_block 0 0 0 (by decide) (by decide) 0#32 rfl iota_S1024x128_d1_w32 natLt_1_32 shapeCasts_S1024x128_S1024x128x1
      shapeCasts_S1024x128x1_S1024x128 bitsLt_fp8e4m3_f32 bitsLt_bf16_f32 bitcasts_S1024x128_w8_S256x128_w32 bitcasts_S256x128_w32_S1024x128_w8
      bitsLt_fp8e4m3_bf16 shapeCasts_S1024x128_S1024x128 inb_S1024x2560_S1024x128_0_0 inb_S1024x384_S1024x128_0_0
      (View.readAt (Elt F) arg4.view (Rect.unit (s := S1024x384) ![0, 0] S1024x128.size inb_S1024x384_S1024x128_0_0).toLoadRect f4)
      (View.readAt (Elt F) arg3.view (Rect.unit (s := S1024x2560) ![0, 0] S1024x128.size inb_S1024x2560_S1024x128_0_0).toLoadRect f3)
      (arg3.view.read (Elt F) f3) (arg4.view.read (Elt F) f4) (fun _ => rfl) (fun _ => rfl), ?_⟩
    exact fun _ h => absurd h List.not_mem_nil
  have hv7 : sound_kernel.sl.v1343 c arg3 arg4 arg7 f3 f4 = wLow (arg3.view.read (Elt F) f3) (arg4.view.read (Elt F) f4) := by
    refine (View.readAt_full _ _ _).trans (funext fun y => ?_)
    exact View.read_writes_apply_of_pieces _ _ _ _ hp7 y (View.cover_of_tiled (s := S1024x2560) _ ![1024, 128] rfl y)
  have hp8 : ∀ p ∈ sound_kernel.sl.H8_20 c arg3 arg4 f3 f4, ∀ x : p.1.shape.Idx,
      p.2 x = wHigh (arg3.view.read (Elt F) f3) (arg4.view.read (Elt F) f4) (p.1.emb x) := by
    refine List.forall_mem_cons.2 ⟨highTile_block 19 256 3 (by decide) (by decide) 48#32 rfl iota_S1024x128_d1_w32 natLt_1_32 shapeCasts_S1024x128_S1024x128x1
      shapeCasts_S1024x128x1_S1024x128 bitsLt_fp8e4m3_f32 bitsLt_bf16_f32 bitcasts_S1024x128_w8_S256x128_w32 bitcasts_S256x128_w32_S1024x128_w8
      bitsLt_fp8e4m3_bf16 shapeCasts_S1024x128_S1024x128 inb_S1024x2560_S1024x128_0_2432 inb_S1024x384_S1024x128_0_256
      (View.readAt (Elt F) arg4.view (Rect.unit (s := S1024x384) ![0, 256] S1024x128.size inb_S1024x384_S1024x128_0_256).toLoadRect f4)
      (View.readAt (Elt F) arg3.view (Rect.unit (s := S1024x2560) ![0, 2432] S1024x128.size inb_S1024x2560_S1024x128_0_2432).toLoadRect f3)
      (arg3.view.read (Elt F) f3) (arg4.view.read (Elt F) f4) (fun _ => rfl) (fun _ => rfl), ?_⟩
    refine List.forall_mem_cons.2 ⟨highTile_block 18 256 2 (by decide) (by decide) 32#32 rfl iota_S1024x128_d1_w32 natLt_1_32 shapeCasts_S1024x128_S1024x128x1
      shapeCasts_S1024x128x1_S1024x128 bitsLt_fp8e4m3_f32 bitsLt_bf16_f32 bitcasts_S1024x128_w8_S256x128_w32 bitcasts_S256x128_w32_S1024x128_w8
      bitsLt_fp8e4m3_bf16 shapeCasts_S1024x128_S1024x128 inb_S1024x2560_S1024x128_0_2304 inb_S1024x384_S1024x128_0_256
      (View.readAt (Elt F) arg4.view (Rect.unit (s := S1024x384) ![0, 256] S1024x128.size inb_S1024x384_S1024x128_0_256).toLoadRect f4)
      (View.readAt (Elt F) arg3.view (Rect.unit (s := S1024x2560) ![0, 2304] S1024x128.size inb_S1024x2560_S1024x128_0_2304).toLoadRect f3)
      (arg3.view.read (Elt F) f3) (arg4.view.read (Elt F) f4) (fun _ => rfl) (fun _ => rfl), ?_⟩
    refine List.forall_mem_cons.2 ⟨highTile_block 17 256 1 (by decide) (by decide) 16#32 rfl iota_S1024x128_d1_w32 natLt_1_32 shapeCasts_S1024x128_S1024x128x1
      shapeCasts_S1024x128x1_S1024x128 bitsLt_fp8e4m3_f32 bitsLt_bf16_f32 bitcasts_S1024x128_w8_S256x128_w32 bitcasts_S256x128_w32_S1024x128_w8
      bitsLt_fp8e4m3_bf16 shapeCasts_S1024x128_S1024x128 inb_S1024x2560_S1024x128_0_2176 inb_S1024x384_S1024x128_0_256
      (View.readAt (Elt F) arg4.view (Rect.unit (s := S1024x384) ![0, 256] S1024x128.size inb_S1024x384_S1024x128_0_256).toLoadRect f4)
      (View.readAt (Elt F) arg3.view (Rect.unit (s := S1024x2560) ![0, 2176] S1024x128.size inb_S1024x2560_S1024x128_0_2176).toLoadRect f3)
      (arg3.view.read (Elt F) f3) (arg4.view.read (Elt F) f4) (fun _ => rfl) (fun _ => rfl), ?_⟩
    refine List.forall_mem_cons.2 ⟨highTile_block 16 256 0 (by decide) (by decide) 0#32 rfl iota_S1024x128_d1_w32 natLt_1_32 shapeCasts_S1024x128_S1024x128x1
      shapeCasts_S1024x128x1_S1024x128 bitsLt_fp8e4m3_f32 bitsLt_bf16_f32 bitcasts_S1024x128_w8_S256x128_w32 bitcasts_S256x128_w32_S1024x128_w8
      bitsLt_fp8e4m3_bf16 shapeCasts_S1024x128_S1024x128 inb_S1024x2560_S1024x128_0_2048 inb_S1024x384_S1024x128_0_256
      (View.readAt (Elt F) arg4.view (Rect.unit (s := S1024x384) ![0, 256] S1024x128.size inb_S1024x384_S1024x128_0_256).toLoadRect f4)
      (View.readAt (Elt F) arg3.view (Rect.unit (s := S1024x2560) ![0, 2048] S1024x128.size inb_S1024x2560_S1024x128_0_2048).toLoadRect f3)
      (arg3.view.read (Elt F) f3) (arg4.view.read (Elt F) f4) (fun _ => rfl) (fun _ => rfl), ?_⟩
    refine List.forall_mem_cons.2 ⟨highTile_block 15 128 7 (by decide) (by decide) 112#32 rfl iota_S1024x128_d1_w32 natLt_1_32 shapeCasts_S1024x128_S1024x128x1
      shapeCasts_S1024x128x1_S1024x128 bitsLt_fp8e4m3_f32 bitsLt_bf16_f32 bitcasts_S1024x128_w8_S256x128_w32 bitcasts_S256x128_w32_S1024x128_w8
      bitsLt_fp8e4m3_bf16 shapeCasts_S1024x128_S1024x128 inb_S1024x2560_S1024x128_0_1920 inb_S1024x384_S1024x128_0_128
      (View.readAt (Elt F) arg4.view (Rect.unit (s := S1024x384) ![0, 128] S1024x128.size inb_S1024x384_S1024x128_0_128).toLoadRect f4)
      (View.readAt (Elt F) arg3.view (Rect.unit (s := S1024x2560) ![0, 1920] S1024x128.size inb_S1024x2560_S1024x128_0_1920).toLoadRect f3)
      (arg3.view.read (Elt F) f3) (arg4.view.read (Elt F) f4) (fun _ => rfl) (fun _ => rfl), ?_⟩
    refine List.forall_mem_cons.2 ⟨highTile_block 14 128 6 (by decide) (by decide) 96#32 rfl iota_S1024x128_d1_w32 natLt_1_32 shapeCasts_S1024x128_S1024x128x1
      shapeCasts_S1024x128x1_S1024x128 bitsLt_fp8e4m3_f32 bitsLt_bf16_f32 bitcasts_S1024x128_w8_S256x128_w32 bitcasts_S256x128_w32_S1024x128_w8
      bitsLt_fp8e4m3_bf16 shapeCasts_S1024x128_S1024x128 inb_S1024x2560_S1024x128_0_1792 inb_S1024x384_S1024x128_0_128
      (View.readAt (Elt F) arg4.view (Rect.unit (s := S1024x384) ![0, 128] S1024x128.size inb_S1024x384_S1024x128_0_128).toLoadRect f4)
      (View.readAt (Elt F) arg3.view (Rect.unit (s := S1024x2560) ![0, 1792] S1024x128.size inb_S1024x2560_S1024x128_0_1792).toLoadRect f3)
      (arg3.view.read (Elt F) f3) (arg4.view.read (Elt F) f4) (fun _ => rfl) (fun _ => rfl), ?_⟩
    refine List.forall_mem_cons.2 ⟨highTile_block 13 128 5 (by decide) (by decide) 80#32 rfl iota_S1024x128_d1_w32 natLt_1_32 shapeCasts_S1024x128_S1024x128x1
      shapeCasts_S1024x128x1_S1024x128 bitsLt_fp8e4m3_f32 bitsLt_bf16_f32 bitcasts_S1024x128_w8_S256x128_w32 bitcasts_S256x128_w32_S1024x128_w8
      bitsLt_fp8e4m3_bf16 shapeCasts_S1024x128_S1024x128 inb_S1024x2560_S1024x128_0_1664 inb_S1024x384_S1024x128_0_128
      (View.readAt (Elt F) arg4.view (Rect.unit (s := S1024x384) ![0, 128] S1024x128.size inb_S1024x384_S1024x128_0_128).toLoadRect f4)
      (View.readAt (Elt F) arg3.view (Rect.unit (s := S1024x2560) ![0, 1664] S1024x128.size inb_S1024x2560_S1024x128_0_1664).toLoadRect f3)
      (arg3.view.read (Elt F) f3) (arg4.view.read (Elt F) f4) (fun _ => rfl) (fun _ => rfl), ?_⟩
    refine List.forall_mem_cons.2 ⟨highTile_block 12 128 4 (by decide) (by decide) 64#32 rfl iota_S1024x128_d1_w32 natLt_1_32 shapeCasts_S1024x128_S1024x128x1
      shapeCasts_S1024x128x1_S1024x128 bitsLt_fp8e4m3_f32 bitsLt_bf16_f32 bitcasts_S1024x128_w8_S256x128_w32 bitcasts_S256x128_w32_S1024x128_w8
      bitsLt_fp8e4m3_bf16 shapeCasts_S1024x128_S1024x128 inb_S1024x2560_S1024x128_0_1536 inb_S1024x384_S1024x128_0_128
      (View.readAt (Elt F) arg4.view (Rect.unit (s := S1024x384) ![0, 128] S1024x128.size inb_S1024x384_S1024x128_0_128).toLoadRect f4)
      (View.readAt (Elt F) arg3.view (Rect.unit (s := S1024x2560) ![0, 1536] S1024x128.size inb_S1024x2560_S1024x128_0_1536).toLoadRect f3)
      (arg3.view.read (Elt F) f3) (arg4.view.read (Elt F) f4) (fun _ => rfl) (fun _ => rfl), ?_⟩
    refine List.forall_mem_cons.2 ⟨highTile_block 11 128 3 (by decide) (by decide) 48#32 rfl iota_S1024x128_d1_w32 natLt_1_32 shapeCasts_S1024x128_S1024x128x1
      shapeCasts_S1024x128x1_S1024x128 bitsLt_fp8e4m3_f32 bitsLt_bf16_f32 bitcasts_S1024x128_w8_S256x128_w32 bitcasts_S256x128_w32_S1024x128_w8
      bitsLt_fp8e4m3_bf16 shapeCasts_S1024x128_S1024x128 inb_S1024x2560_S1024x128_0_1408 inb_S1024x384_S1024x128_0_128
      (View.readAt (Elt F) arg4.view (Rect.unit (s := S1024x384) ![0, 128] S1024x128.size inb_S1024x384_S1024x128_0_128).toLoadRect f4)
      (View.readAt (Elt F) arg3.view (Rect.unit (s := S1024x2560) ![0, 1408] S1024x128.size inb_S1024x2560_S1024x128_0_1408).toLoadRect f3)
      (arg3.view.read (Elt F) f3) (arg4.view.read (Elt F) f4) (fun _ => rfl) (fun _ => rfl), ?_⟩
    refine List.forall_mem_cons.2 ⟨highTile_block 10 128 2 (by decide) (by decide) 32#32 rfl iota_S1024x128_d1_w32 natLt_1_32 shapeCasts_S1024x128_S1024x128x1
      shapeCasts_S1024x128x1_S1024x128 bitsLt_fp8e4m3_f32 bitsLt_bf16_f32 bitcasts_S1024x128_w8_S256x128_w32 bitcasts_S256x128_w32_S1024x128_w8
      bitsLt_fp8e4m3_bf16 shapeCasts_S1024x128_S1024x128 inb_S1024x2560_S1024x128_0_1280 inb_S1024x384_S1024x128_0_128
      (View.readAt (Elt F) arg4.view (Rect.unit (s := S1024x384) ![0, 128] S1024x128.size inb_S1024x384_S1024x128_0_128).toLoadRect f4)
      (View.readAt (Elt F) arg3.view (Rect.unit (s := S1024x2560) ![0, 1280] S1024x128.size inb_S1024x2560_S1024x128_0_1280).toLoadRect f3)
      (arg3.view.read (Elt F) f3) (arg4.view.read (Elt F) f4) (fun _ => rfl) (fun _ => rfl), ?_⟩
    refine List.forall_mem_cons.2 ⟨highTile_block 9 128 1 (by decide) (by decide) 16#32 rfl iota_S1024x128_d1_w32 natLt_1_32 shapeCasts_S1024x128_S1024x128x1
      shapeCasts_S1024x128x1_S1024x128 bitsLt_fp8e4m3_f32 bitsLt_bf16_f32 bitcasts_S1024x128_w8_S256x128_w32 bitcasts_S256x128_w32_S1024x128_w8
      bitsLt_fp8e4m3_bf16 shapeCasts_S1024x128_S1024x128 inb_S1024x2560_S1024x128_0_1152 inb_S1024x384_S1024x128_0_128
      (View.readAt (Elt F) arg4.view (Rect.unit (s := S1024x384) ![0, 128] S1024x128.size inb_S1024x384_S1024x128_0_128).toLoadRect f4)
      (View.readAt (Elt F) arg3.view (Rect.unit (s := S1024x2560) ![0, 1152] S1024x128.size inb_S1024x2560_S1024x128_0_1152).toLoadRect f3)
      (arg3.view.read (Elt F) f3) (arg4.view.read (Elt F) f4) (fun _ => rfl) (fun _ => rfl), ?_⟩
    refine List.forall_mem_cons.2 ⟨highTile_block 8 128 0 (by decide) (by decide) 0#32 rfl iota_S1024x128_d1_w32 natLt_1_32 shapeCasts_S1024x128_S1024x128x1
      shapeCasts_S1024x128x1_S1024x128 bitsLt_fp8e4m3_f32 bitsLt_bf16_f32 bitcasts_S1024x128_w8_S256x128_w32 bitcasts_S256x128_w32_S1024x128_w8
      bitsLt_fp8e4m3_bf16 shapeCasts_S1024x128_S1024x128 inb_S1024x2560_S1024x128_0_1024 inb_S1024x384_S1024x128_0_128
      (View.readAt (Elt F) arg4.view (Rect.unit (s := S1024x384) ![0, 128] S1024x128.size inb_S1024x384_S1024x128_0_128).toLoadRect f4)
      (View.readAt (Elt F) arg3.view (Rect.unit (s := S1024x2560) ![0, 1024] S1024x128.size inb_S1024x2560_S1024x128_0_1024).toLoadRect f3)
      (arg3.view.read (Elt F) f3) (arg4.view.read (Elt F) f4) (fun _ => rfl) (fun _ => rfl), ?_⟩
    refine List.forall_mem_cons.2 ⟨highTile_block 7 0 7 (by decide) (by decide) 112#32 rfl iota_S1024x128_d1_w32 natLt_1_32 shapeCasts_S1024x128_S1024x128x1
      shapeCasts_S1024x128x1_S1024x128 bitsLt_fp8e4m3_f32 bitsLt_bf16_f32 bitcasts_S1024x128_w8_S256x128_w32 bitcasts_S256x128_w32_S1024x128_w8
      bitsLt_fp8e4m3_bf16 shapeCasts_S1024x128_S1024x128 inb_S1024x2560_S1024x128_0_896 inb_S1024x384_S1024x128_0_0
      (View.readAt (Elt F) arg4.view (Rect.unit (s := S1024x384) ![0, 0] S1024x128.size inb_S1024x384_S1024x128_0_0).toLoadRect f4)
      (View.readAt (Elt F) arg3.view (Rect.unit (s := S1024x2560) ![0, 896] S1024x128.size inb_S1024x2560_S1024x128_0_896).toLoadRect f3)
      (arg3.view.read (Elt F) f3) (arg4.view.read (Elt F) f4) (fun _ => rfl) (fun _ => rfl), ?_⟩
    refine List.forall_mem_cons.2 ⟨highTile_block 6 0 6 (by decide) (by decide) 96#32 rfl iota_S1024x128_d1_w32 natLt_1_32 shapeCasts_S1024x128_S1024x128x1
      shapeCasts_S1024x128x1_S1024x128 bitsLt_fp8e4m3_f32 bitsLt_bf16_f32 bitcasts_S1024x128_w8_S256x128_w32 bitcasts_S256x128_w32_S1024x128_w8
      bitsLt_fp8e4m3_bf16 shapeCasts_S1024x128_S1024x128 inb_S1024x2560_S1024x128_0_768 inb_S1024x384_S1024x128_0_0
      (View.readAt (Elt F) arg4.view (Rect.unit (s := S1024x384) ![0, 0] S1024x128.size inb_S1024x384_S1024x128_0_0).toLoadRect f4)
      (View.readAt (Elt F) arg3.view (Rect.unit (s := S1024x2560) ![0, 768] S1024x128.size inb_S1024x2560_S1024x128_0_768).toLoadRect f3)
      (arg3.view.read (Elt F) f3) (arg4.view.read (Elt F) f4) (fun _ => rfl) (fun _ => rfl), ?_⟩
    refine List.forall_mem_cons.2 ⟨highTile_block 5 0 5 (by decide) (by decide) 80#32 rfl iota_S1024x128_d1_w32 natLt_1_32 shapeCasts_S1024x128_S1024x128x1
      shapeCasts_S1024x128x1_S1024x128 bitsLt_fp8e4m3_f32 bitsLt_bf16_f32 bitcasts_S1024x128_w8_S256x128_w32 bitcasts_S256x128_w32_S1024x128_w8
      bitsLt_fp8e4m3_bf16 shapeCasts_S1024x128_S1024x128 inb_S1024x2560_S1024x128_0_640 inb_S1024x384_S1024x128_0_0
      (View.readAt (Elt F) arg4.view (Rect.unit (s := S1024x384) ![0, 0] S1024x128.size inb_S1024x384_S1024x128_0_0).toLoadRect f4)
      (View.readAt (Elt F) arg3.view (Rect.unit (s := S1024x2560) ![0, 640] S1024x128.size inb_S1024x2560_S1024x128_0_640).toLoadRect f3)
      (arg3.view.read (Elt F) f3) (arg4.view.read (Elt F) f4) (fun _ => rfl) (fun _ => rfl), ?_⟩
    refine List.forall_mem_cons.2 ⟨highTile_block 4 0 4 (by decide) (by decide) 64#32 rfl iota_S1024x128_d1_w32 natLt_1_32 shapeCasts_S1024x128_S1024x128x1
      shapeCasts_S1024x128x1_S1024x128 bitsLt_fp8e4m3_f32 bitsLt_bf16_f32 bitcasts_S1024x128_w8_S256x128_w32 bitcasts_S256x128_w32_S1024x128_w8
      bitsLt_fp8e4m3_bf16 shapeCasts_S1024x128_S1024x128 inb_S1024x2560_S1024x128_0_512 inb_S1024x384_S1024x128_0_0
      (View.readAt (Elt F) arg4.view (Rect.unit (s := S1024x384) ![0, 0] S1024x128.size inb_S1024x384_S1024x128_0_0).toLoadRect f4)
      (View.readAt (Elt F) arg3.view (Rect.unit (s := S1024x2560) ![0, 512] S1024x128.size inb_S1024x2560_S1024x128_0_512).toLoadRect f3)
      (arg3.view.read (Elt F) f3) (arg4.view.read (Elt F) f4) (fun _ => rfl) (fun _ => rfl), ?_⟩
    refine List.forall_mem_cons.2 ⟨highTile_block 3 0 3 (by decide) (by decide) 48#32 rfl iota_S1024x128_d1_w32 natLt_1_32 shapeCasts_S1024x128_S1024x128x1
      shapeCasts_S1024x128x1_S1024x128 bitsLt_fp8e4m3_f32 bitsLt_bf16_f32 bitcasts_S1024x128_w8_S256x128_w32 bitcasts_S256x128_w32_S1024x128_w8
      bitsLt_fp8e4m3_bf16 shapeCasts_S1024x128_S1024x128 inb_S1024x2560_S1024x128_0_384 inb_S1024x384_S1024x128_0_0
      (View.readAt (Elt F) arg4.view (Rect.unit (s := S1024x384) ![0, 0] S1024x128.size inb_S1024x384_S1024x128_0_0).toLoadRect f4)
      (View.readAt (Elt F) arg3.view (Rect.unit (s := S1024x2560) ![0, 384] S1024x128.size inb_S1024x2560_S1024x128_0_384).toLoadRect f3)
      (arg3.view.read (Elt F) f3) (arg4.view.read (Elt F) f4) (fun _ => rfl) (fun _ => rfl), ?_⟩
    refine List.forall_mem_cons.2 ⟨highTile_block 2 0 2 (by decide) (by decide) 32#32 rfl iota_S1024x128_d1_w32 natLt_1_32 shapeCasts_S1024x128_S1024x128x1
      shapeCasts_S1024x128x1_S1024x128 bitsLt_fp8e4m3_f32 bitsLt_bf16_f32 bitcasts_S1024x128_w8_S256x128_w32 bitcasts_S256x128_w32_S1024x128_w8
      bitsLt_fp8e4m3_bf16 shapeCasts_S1024x128_S1024x128 inb_S1024x2560_S1024x128_0_256 inb_S1024x384_S1024x128_0_0
      (View.readAt (Elt F) arg4.view (Rect.unit (s := S1024x384) ![0, 0] S1024x128.size inb_S1024x384_S1024x128_0_0).toLoadRect f4)
      (View.readAt (Elt F) arg3.view (Rect.unit (s := S1024x2560) ![0, 256] S1024x128.size inb_S1024x2560_S1024x128_0_256).toLoadRect f3)
      (arg3.view.read (Elt F) f3) (arg4.view.read (Elt F) f4) (fun _ => rfl) (fun _ => rfl), ?_⟩
    refine List.forall_mem_cons.2 ⟨highTile_block 1 0 1 (by decide) (by decide) 16#32 rfl iota_S1024x128_d1_w32 natLt_1_32 shapeCasts_S1024x128_S1024x128x1
      shapeCasts_S1024x128x1_S1024x128 bitsLt_fp8e4m3_f32 bitsLt_bf16_f32 bitcasts_S1024x128_w8_S256x128_w32 bitcasts_S256x128_w32_S1024x128_w8
      bitsLt_fp8e4m3_bf16 shapeCasts_S1024x128_S1024x128 inb_S1024x2560_S1024x128_0_128 inb_S1024x384_S1024x128_0_0
      (View.readAt (Elt F) arg4.view (Rect.unit (s := S1024x384) ![0, 0] S1024x128.size inb_S1024x384_S1024x128_0_0).toLoadRect f4)
      (View.readAt (Elt F) arg3.view (Rect.unit (s := S1024x2560) ![0, 128] S1024x128.size inb_S1024x2560_S1024x128_0_128).toLoadRect f3)
      (arg3.view.read (Elt F) f3) (arg4.view.read (Elt F) f4) (fun _ => rfl) (fun _ => rfl), ?_⟩
    refine List.forall_mem_cons.2 ⟨highTile_block 0 0 0 (by decide) (by decide) 0#32 rfl iota_S1024x128_d1_w32 natLt_1_32 shapeCasts_S1024x128_S1024x128x1
      shapeCasts_S1024x128x1_S1024x128 bitsLt_fp8e4m3_f32 bitsLt_bf16_f32 bitcasts_S1024x128_w8_S256x128_w32 bitcasts_S256x128_w32_S1024x128_w8
      bitsLt_fp8e4m3_bf16 shapeCasts_S1024x128_S1024x128 inb_S1024x2560_S1024x128_0_0 inb_S1024x384_S1024x128_0_0
      (View.readAt (Elt F) arg4.view (Rect.unit (s := S1024x384) ![0, 0] S1024x128.size inb_S1024x384_S1024x128_0_0).toLoadRect f4)
      (View.readAt (Elt F) arg3.view (Rect.unit (s := S1024x2560) ![0, 0] S1024x128.size inb_S1024x2560_S1024x128_0_0).toLoadRect f3)
      (arg3.view.read (Elt F) f3) (arg4.view.read (Elt F) f4) (fun _ => rfl) (fun _ => rfl), ?_⟩
    exact fun _ h => absurd h List.not_mem_nil
  have hv8 : sound_kernel.sl.v1347 c arg3 arg4 arg8 f3 f4 = wHigh (arg3.view.read (Elt F) f3) (arg4.view.read (Elt F) f4) := by
    refine (View.readAt_full _ _ _).trans (funext fun y => ?_)
    exact View.read_writes_apply_of_pieces _ _ _ _ hp8 y (View.cover_of_tiled (s := S1024x2560) _ ![1024, 128] rfl y)
  have hv1 : View.readAt (Elt F) arg1.view (Rect.unit (s := S256x2560) ![0, 0] S256x2560.size inb_S256x2560_S256x2560_0_0).toLoadRect f1 = arg1.view.read (Elt F) f1 :=
    View.readAt_full _ _ _
  have hv2 : View.readAt (Elt F) arg2.view (Rect.unit (s := S256x2560) ![0, 0] S256x2560.size inb_S256x2560_S256x2560_0_0).toLoadRect f2 = arg2.view.read (Elt F) f2 :=
    View.readAt_full _ _ _
  have hv5 : sound_kernel.sl.r_54 c arg5 f5 = arg5.view.read (Elt F) f5 (ValueIdx.ix2 0 0) :=
    congrArg (arg5.view.read (Elt F) f5) (funext fun a => Fin.ext (by
      match a with
      | ⟨0, _⟩ => exact Nat.lt_one_iff.1 (Fin.isLt _)
      | ⟨1, _⟩ => exact Nat.lt_one_iff.1 (Fin.isLt _)))
  have hr1 : sound_kernel.sl.r_53 c arg1 f1 = k0_pay143 (arg1.view.read (Elt F) f1) := congrArg k0_pay143 hv1
  rw [hr1, hv7, hv2, hv8, hv5]
  clear hp7 hp8 hr1 hv7 hv2 hv8 hv5 hv1
  sl_step
  iapply Hk
  isplitl [H1]
  · iexists f1; isplitr
    · ipureintro; exact Eq.refl (View.read (Elt F) arg1.view f1)
    iexact H1
  isplitl [H2]
  · iexists f2; isplitr
    · ipureintro; exact Eq.refl (View.read (Elt F) arg2.view f2)
    iexact H2
  isplitl [H3]
  · iexists f3; isplitr
    · ipureintro; exact Eq.refl (View.read (Elt F) arg3.view f3)
    iexact H3
  isplitl [H4]
  · iexists f4; isplitr
    · ipureintro; exact Eq.refl (View.read (Elt F) arg4.view f4)
    iexact H4
  isplitl [H5]
  · iexists f5; isplitr
    · ipureintro; exact Eq.refl (View.read (Elt F) arg5.view f5)
    iexact H5
  isplitl [H6]
  · iexists _; isplitr
    swap; · iexact H6
    ipureintro
    refine funext fun y => View.read_writes_apply_of_pieces _ _ _ _ (List.forall_mem_cons.2 ⟨fun x => ?_, fun _ h => absurd h List.not_mem_nil⟩) y
      (View.cover_of_tiled (s := S256x1024) _ ![256, 1024] rfl y)
    refine congrArg _ (funext fun a => Fin.ext ?_)
    match a with
    | ⟨0, _⟩ => exact (show (x 0).val = 0 + 1 * (x 0).val by omega)
    | ⟨1, _⟩ => exact (show (x 1).val = 0 + 1 * (x 1).val by omega)
  generalize sound_kernel.sl.H7_20 c arg3 arg4 f3 f4 = L7
  generalize sound_kernel.sl.H8_20 c arg3 arg4 f3 f4 = L8
  isplitl [H7]
  · iexists (arg7.view.read (Elt F) (arg7.view.writes (Elt F) f7 L7)); iexists (arg7.view.writes (Elt F) f7 L7); isplitr
    swap; · iexact H7
    ipureintro; exact Eq.refl (arg7.view.read (Elt F) (arg7.view.writes (Elt F) f7 L7))
  · iexists (arg8.view.read (Elt F) (arg8.view.writes (Elt F) f8 L8)); iexists (arg8.view.writes (Elt F) f8 L8); isplitr
    swap; · iexact H8
    ipureintro; exact Eq.refl (arg8.view.read (Elt F) (arg8.view.writes (Elt F) f8 L8))

end Cert.KernelIdeal.Hand

end
-- ==== Proof.KernelIdealRun.lean ====
/-
  The run of the whole program. The block of scales is 384 columns wide over an array of 320, so that the last 64 columns
  of its buffer hold contents nothing names; the body's results do not read them (`outBlk_fill`). From the body
  (KernelIdealBody.lean) at the buffers of each of the 27 points: every execution terminates, the result array is what the
  27 written-back blocks make of it, the arguments are unchanged and every semaphore counter is zero (`run_main`).
-/
module

public import proofs.«01_k».proof.Proof.KernelIdealBody
public import Idealize.ShloMosaic.Lib.Pipeline.Frame

@[expose] public section

set_option maxRecDepth 16384

noncomputable section

namespace Cert.KernelIdeal.Hand

open Cert.KernelIdeal Cert.KernelIdeal.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The scales' block past the array's end -/

/-- At every point the scales' transfer moves all 1024 rows and the first 320 columns. -/
theorem xsize3 : ∀ t : Fin grid0.N, win0_3.xsize (grid0.coords t) 0 = 1024 ∧ win0_3.xsize (grid0.coords t) 1 = 320 := by
  decide +kernel

/-- An index of the scales' block in a column below 320 is moved by the transfer. -/
theorem moved3 (t : Fin grid0.N) (j : S1024x384.Idx) (hj : (j 1).val < 320) : win0_3.moved (grid0.coords t) j = true := by
  refine (win0_3.moved_iff (grid0.coords t) j).mpr fun a => ?_
  match a with
  | ⟨0, _⟩ => exact lt_of_lt_of_eq (j 0).isLt (xsize3 t).1.symm
  | ⟨1, _⟩ => exact lt_of_lt_of_eq hj (xsize3 t).2.symm

/-- There the buffer holds the array's scale, whatever the rest of it holds. -/
theorem fill3 {α : Type} (t : Fin grid0.N) (d d' : S1024x384.Idx → α) (g : (win0_3.xblock (grid0.coords t)).Idx → α)
    (j : S1024x384.Idx) (hj : (j 1).val < 320) :
    win0_3.fill (grid0.coords t) d g j = win0_3.fill (grid0.coords t) d' g j := by
  unfold Window.fill; rw [dif_pos (moved3 t j hj), dif_pos (moved3 t j hj)]

/-- The block of results reads no scale past the array's end. -/
theorem outBlk_fill (t : Fin grid0.N) (x0 x1 : Vec F S256x2560 .bf16) (x2 : Vec F S1024x2560 .i8)
    (d d' : S1024x384.Idx → Elt F .fp8e4m3) (g : (win0_3.xblock (grid0.coords t)).Idx → Elt F .fp8e4m3) (x4 : Vec F S1x1 .f32) :
    outBlk x0 x1 x2 (win0_3.fill (grid0.coords t) d g) x4 = outBlk x0 x1 x2 (win0_3.fill (grid0.coords t) d' g) x4 := by
  have hs : scaleAt (win0_3.fill (grid0.coords t) d g) = scaleAt (win0_3.fill (grid0.coords t) d' g) := by
    funext y
    have hy : (y 1).val < 2560 := (y 1).isLt
    unfold scaleAt
    rw [fill3 t d d' g _ (show (y 1).val / 8 < 320 by omega)]
  have hl : wLow x2 (win0_3.fill (grid0.coords t) d g) = wLow x2 (win0_3.fill (grid0.coords t) d' g) := by
    funext y; unfold wLow; rw [hs]
  have hh : wHigh x2 (win0_3.fill (grid0.coords t) d g) = wHigh x2 (win0_3.fill (grid0.coords t) d' g) := by
    funext y; unfold wHigh; rw [hs]
  unfold outBlk; rw [hl, hh]

/-! ## The proof data -/

/-- The scales' block at point `t`, its columns past the array's end at zero: nothing reads them. -/
def scales (c : Dev nD) (t : Fin cfg0.N) : Vec F S1024x384 .fp8e4m3 :=
  win0_3.fill (grid0.coords t) (fun _ => Scalar.ofBits .fp8e4m3 0#8) (iblk m c 3 t)

/-- The block of results written at point `t`, from that point's blocks of the arguments. -/
def outAt (c : Dev nD) (t : Fin cfg0.N) : Vec F S256x1024 .bf16 :=
  outBlk (iblk m c 0 t) (iblk m c 1 t) (iblk m c 2 t) (scales m c t) (iblk m c 4 t)

/-- After the body at point `t`: each input buffer at its block, the output's at the block of results. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => scales m c t
    | ⟨4, _⟩ => iblk m c 4 t
    | ⟨5, _⟩ => outAt m c t
  Φ _ := Pipeline.ΦA spec0 c
  q _ := fullShare
  owed _ := 0

/-- The scales' buffer before the body: just fetched, the array's part over contents `d`. -/
theorem before_3 (c : Dev nD) (t : Fin cfg0.N) (d) :
    (dats m 0 c).before (3 : Fin 6) t d = win0_3.fill (grid0.coords t) d (iblk m c 3 t) := by
  unfold Dat.before; rw [if_pos (fetch0_3 t)]; rfl

set_option maxHeartbeats 1000000 in
/-- The body's obligation at every point. -/
theorem body_obligation (c : Dev nD) : BodyObligationLoose (dats m 0 c) (defs₀ (F := F)) Variants.none () Set.univ := fun t => by
  rw [bigSep_W0, bigSep_W0]
  simp only
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl]
  unfold Pipeline.ΦA
  rw [scopedRest0_eq]
  iintro ⟨⟨⟨⟨%s0, S0⟩, ⟨%s1, S1⟩⟩, HP⟩, Ho, ⟨%d0, H0⟩, ⟨%d1, H1⟩, ⟨%d2, H2⟩, ⟨%d3, H3⟩, ⟨%d4, H4⟩, ⟨%d5, H5⟩⟩
  rw [before0_0_of m (dats m 0 c) rfl (fun _ => rfl) t d0, before0_1_of m (dats m 0 c) rfl (fun _ => rfl) t d1,
    before0_2_of m (dats m 0 c) rfl (fun _ => rfl) t d2, before_3 m c t d3,
    before0_4_of m (dats m 0 c) rfl (fun _ => rfl) t d4]
  iapply (sound_kernel (F := F) c Set.univ (grid0.coords t) (win0_0.stage (cfg0.slots t 0)) (hstage0_0 ((cfg0.slots t 0).cast nbuf0_0))
    (win0_1.stage (cfg0.slots t 1)) (hstage0_1 ((cfg0.slots t 1).cast nbuf0_1)) (win0_2.stage (cfg0.slots t 2)) (hstage0_2 ((cfg0.slots t 2).cast nbuf0_2))
    (win0_3.stage (cfg0.slots t 3)) (hstage0_3 ((cfg0.slots t 3).cast nbuf0_3)) (win0_4.stage (cfg0.slots t 4)) (hstage0_4 ((cfg0.slots t 4).cast nbuf0_4))
    (win0_5.stage (cfg0.slots t 5)) (hstage0_5 ((cfg0.slots t 5).cast nbuf0_5)) (Memref.whole cc0_scratch0) (Memref.isWhole_whole _) (Memref.whole cc0_scratch1) (Memref.isWhole_whole _)
    (iblk m c 0 t) (iblk m c 1 t) (iblk m c 2 t) (win0_3.fill (grid0.coords t) d3 (iblk m c 3 t)) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [S0]
  · iexists s0; rw [owns_whole_eq]; iexists s0; isplitr; · ipureintro; rfl
    iexact S0
  isplitl [S1]
  · iexists s1; rw [owns_whole_eq]; iexists s1; isplitr; · ipureintro; rfl
    iexact S1
  simp only [owns_whole_eq]
  iintro ⟨H0, H1, H2, H3, H4, H5, ⟨%e0, %f0, -, S0⟩, ⟨%e1, %f1, -, S1⟩⟩
  isplitl [S0 S1 HP]
  · isplitl [S0 S1]
    · isplitl [S0]
      · iexists f0; iexact S0
      · iexists f1; iexact S1
    · iexact HP
  isplitl [Ho]; · iexact Ho
  isplitl [H0]; · iexact H0
  isplitl [H1]; · iexact H1
  isplitl [H2]; · iexact H2
  have hs : win0_3.cut (grid0.coords t) (scales m c t) = iblk m c 3 t := win0_3.cut_fill _ _ _
  isplitl [H3]
  · iexists d3
    change _ ⊢ owns (c : Thread nD τ) (win0_3.stage (cfg0.slots t 3)) fullShare (win0_3.fill (grid0.coords t) d3 (win0_3.cut (grid0.coords t) (scales m c t)))
    rw [hs]; try iexact H3
  isplitl [H4]; · iexact H4
  rw [outBlk_fill t _ _ _ d3 (fun _ => Scalar.ofBits .fp8e4m3 0#8)]
  iexact H5

-- the implicit arguments are found by unifying the conclusion with this one, which takes unfolding plain definitions
set_option backward.isDefEq.respectTransparency.types false in
/-- Every execution terminates; the arrays end as the library computes them and every semaphore counter at zero. -/
theorem run_main : θ_run defs (onTc (τ := τ) (main (F := F))) (s₀ m ρ)
    (fun r => Pipeline.FramePost cfgs (dats m) 0 (V m) r ∧ r.2.sem = fun _ => 0) :=
  Pipeline.θ_run_frame cfgs (dats m) 0 launch0 defs₀ Variants.none m ρ main
    (hbody := body_obligation m)
    (hshare := fun c => (dats m 0 c).share_full fun _ => rfl) (howed := fun _ _ => rfl)
    (V := V m) (hmain := hmain m Variants.none) (hA := fun _ _ => rfl) (hΦ := fun _ _ => rfl)
    (Q' := fun r => Pipeline.FramePost cfgs (dats m) 0 (V m) r ∧ r.2.sem = fun _ => 0) (hQ' := fun _ h => h)

/-- The arguments' buffers after such a run are as launched. -/
theorem args_of (r : PUnit × MemSt nD τ sig (Elt F)) (h : Pipeline.FramePost cfgs (dats m) 0 (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  ⟨((h c).2 main_arg0 (Pipeline.mem_restRefs_of main_arg0 (by decide) (by decide))).trans (V_main_arg0 m c),
    ((h c).1 2).trans (((dats m 0 c).arrAt_in 2 rfl _).trans (V_main_arg1 m c)),
    ((h c).1 3).trans (((dats m 0 c).arrAt_in 3 rfl _).trans (V_main_arg2 m c)),
    ((h c).2 main_arg3 (Pipeline.mem_restRefs_of main_arg3 (by decide) (by decide))).trans (V_main_arg3 m c)⟩

/-- The frame: the program runs, its arguments end unchanged and every semaphore counter at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨args_of m r h.1, h.2⟩) (run_main m ρ)

end Cert.KernelIdeal.Hand

end
-- ==== Proof.Decode.lean ====
/-
  The sixteen four-bit weight codes and the two ways they are decoded. The reference puts the magnitude of a code as the
  pattern of a bf16 number; the kernel places the code's bits in an e4m3 byte, whose value is the weight over 64. Both
  are read here off one table, `weight`, code by code.
-/
module

public import proofs.«01_k».proof.Proof.Word
public import Idealize.ShloMosaic.PureOps.Ideal
public import Mathlib.Tactic.NormNum
public import Mathlib.Tactic.FinCases

@[expose] public section

noncomputable section

namespace Cert.Hand

open Idealize.ShloMosaic

/-- The value of each code: 0, 1/2, 1, 3/2, 2, 3, 4, 6, and the same negated. -/
def weight : Fin 16 → ℝ := ![0, 1/2, 1, 3/2, 2, 3, 4, 6, 0, -(1/2), -1, -(3/2), -2, -3, -4, -6]

/-- The low nibble of a byte. -/
def lowCode (b : BitVec 8) : Fin 16 := ⟨b.toNat % 16, Nat.mod_lt _ (by decide)⟩
/-- The high nibble of a byte. -/
def highCode (b : BitVec 8) : Fin 16 := ⟨b.toNat / 16, by have := b.isLt; omega⟩

/-- The byte the kernel places each code in. -/
def placed : Fin 16 → BitVec 8 := ![0, 4, 8, 12, 16, 20, 24, 28, 128, 132, 136, 140, 144, 148, 152, 156]

/-- The bf16 pattern the reference makes of each code. -/
def pattern : Fin 16 → BitVec 16 :=
  ![0x0000, 0x3F00, 0x3F80, 0x3FC0, 0x4000, 0x4040, 0x4080, 0x40C0, 0x8000, 0xBF00, 0xBF80, 0xBFC0, 0xC000, 0xC040, 0xC080, 0xC0C0]

theorem lowByte_eq (b : BitVec 8) : lowByte b = placed (lowCode b) := by
  have h : ∀ n : Fin 256, lowByte (BitVec.ofFin n) = placed (lowCode (BitVec.ofFin n)) := by decide +kernel
  exact h b.toFin
theorem highByte_eq (b : BitVec 8) : highByte b = placed (highCode b) := by
  have h : ∀ n : Fin 256, highByte (BitVec.ofFin n) = placed (highCode (BitVec.ofFin n)) := by decide +kernel
  exact h b.toFin

/-- The placed byte denotes the weight over 64. -/
theorem placed_value (n : Fin 16) : Ideal.e4m3fn (placed n) = ((weight n / 64 : ℝ) : EReal) := by
  fin_cases n <;> simp [Ideal.e4m3fn, placed, weight, -EReal.coe_mul] <;> norm_num [-EReal.coe_mul]

/-- The reference's pattern denotes the weight. -/
theorem pattern_value (n : Fin 16) : Ideal.ieee 8 7 (pattern n) = ((weight n : ℝ) : EReal) := by
  fin_cases n <;> simp [Ideal.ieee, pattern, weight, -EReal.coe_mul] <;> norm_num [-EReal.coe_mul]

/-- The pattern of 64 denotes 64. -/
theorem sixtyFour : Ideal.ieee 8 23 (0x42800000#32) = ((64 : ℝ) : EReal) := by
  simp [Ideal.ieee, -EReal.coe_mul]; norm_num [-EReal.coe_mul]

/-- The steps in which the reference makes the pattern, on a code held in a 32-bit word. -/
def patternSteps (c : BitVec 32) : BitVec 16 :=
  let mag := IntOp.andi c 7#32
  (IntOp.ori (Scalar.select (IntOp.cmpi .uge mag 2#32) (IntOp.addi (IntOp.shli .host mag 6#32) 16128#32)
    (Scalar.select (IntOp.cmpi .eq mag 1#32) 16128#32 0#32)) (IntOp.shli .host (IntOp.andi c 8#32) 12#32)).setWidth 16

theorem patternSteps_low (b : BitVec 8) : patternSteps (IntOp.andi (b.setWidth 32) 15#32) = pattern (lowCode b) := by
  have h : ∀ n : Fin 256, patternSteps (IntOp.andi ((BitVec.ofFin n : BitVec 8).setWidth 32) 15#32) = pattern (lowCode (BitVec.ofFin n)) := by
    decide +kernel
  exact h b.toFin
theorem patternSteps_high (b : BitVec 8) : patternSteps (IntOp.shrui .host (b.setWidth 32) 4#32) = pattern (highCode b) := by
  have h : ∀ n : Fin 256, patternSteps (IntOp.shrui .host ((BitVec.ofFin n : BitVec 8).setWidth 32) 4#32) = pattern (highCode (BitVec.ofFin n)) := by
    decide +kernel
  exact h b.toFin

end Cert.Hand

end
-- ==== Proof.Sums.lean ====
/-
  Sums over the packed columns, on the extended reals: a factor of 1/64 that every summand carries comes out of the sum
  and is undone by the 64 the kernel multiplies in at the end; and a sum over the 2560 packed columns is the sum over
  the 320 blocks of the sums over the eight columns of each.
-/
module

public import Idealize.ShloMosaic.PureOps.Ideal
public import Mathlib.Data.EReal.Operations
public import Mathlib.Logic.Equiv.Fin.Basic
public import Mathlib.Algebra.BigOperators.Fin
public import Mathlib.Tactic.NormNum

@[expose] public section

noncomputable section

namespace Cert.Hand

open scoped BigOperators

/-- A nonnegative real factor comes out of a finite sum. -/
theorem mul_sum {ι : Type} (s : Finset ι) (c : ℝ) (hc : 0 ≤ c) (f : ι → EReal) :
    ∑ i ∈ s, (c : EReal) * f i = (c : EReal) * ∑ i ∈ s, f i := by
  classical
  induction s using Finset.induction_on with
  | empty => simp
  | insert a s ha ih =>
    rw [Finset.sum_insert ha, Finset.sum_insert ha, ih,
      EReal.left_distrib_of_nonneg_of_ne_top (EReal.coe_nonneg.mpr hc) (EReal.coe_ne_top c)]

/-- A weight held over 64, times its scale, times an activation. -/
theorem summand (a s : EReal) (v : ℝ) : a * (((v / 64 : ℝ) : EReal) * s) = ((1 / 64 : ℝ) : EReal) * (a * ((v : EReal) * s)) := by
  have h : ((v / 64 : ℝ) : EReal) = ((1 / 64 : ℝ) : EReal) * (v : EReal) := by rw [← EReal.coe_mul]; congr 1; ring
  rw [h, mul_assoc, mul_left_comm]

/-- The 1/64 of the two sums against the 64 in the global scale. -/
theorem rescale (A B g : EReal) :
    (((1 / 64 : ℝ) : EReal) * A + ((1 / 64 : ℝ) : EReal) * B) * (g * ((64 : ℝ) : EReal)) = (A + B) * g := by
  rw [← EReal.left_distrib_of_nonneg_of_ne_top (EReal.coe_nonneg.mpr (by norm_num)) (EReal.coe_ne_top _),
    mul_comm g, mul_mul_mul_comm, ← EReal.coe_mul]
  norm_num

/-- Column `8 b + j`, the `j`-th of block `b`. -/
abbrev column (b : Fin 320) (j : Fin 8) : Fin 2560 := ⟨8 * b.val + j.val, by omega⟩

/-- A sum over the columns, block by block. -/
theorem sum_blocks (f : Fin 2560 → EReal) : ∑ k, f k = ∑ b : Fin 320, ∑ j : Fin 8, f (column b j) := by
  have h := Equiv.sum_comp (finProdFinEquiv (m := 320) (n := 8)) f
  refine h.symm.trans ((Fintype.sum_prod_type _).trans ?_)
  refine Finset.sum_congr rfl fun b _ => Finset.sum_congr rfl fun j _ => congrArg f (Fin.ext ?_)
  show j.val + 8 * b.val = 8 * b.val + j.val
  omega

end Cert.Hand

end
-- ==== Proof.Product.lean ====
/-
  The function both programs compute, written on the arguments: activations against four-bit weights, each byte holding
  the weight of an even and of an odd activation column, every eight packed columns of a row under one scale, and one
  global scale over the whole.
-/
module

public import proofs.«01_k».proof.Proof.Decode
public import proofs.«01_k».proof.Proof.Sums
public import Idealize.ShloMosaic.Lib.ValueIdx

@[expose] public section

noncomputable section

namespace Cert.Hand

open Idealize.ShloMosaic hiding ix0 ix1 ix2 ix3 ix4
open Idealize.ShloMosaic.ValueIdx
open scoped BigOperators

/-- The activation column of a packed column's low nibble. -/
abbrev evenColumn (k : Fin 2560) : Fin 5120 := ⟨2 * k.val, by omega⟩
/-- The activation column of a packed column's high nibble. -/
abbrev oddColumn (k : Fin 2560) : Fin 5120 := ⟨2 * k.val + 1, by omega⟩

/-- The product at an entry: `x` activations, `w` packed bytes, `s` block scales, `g` the global scale. -/
def product (x : (⟨3, ![256, 1, 5120]⟩ : Shape).Idx → EReal) (w : (⟨2, ![27648, 2560]⟩ : Shape).Idx → BitVec 8)
    (s : (⟨2, ![27648, 320]⟩ : Shape).Idx → EReal) (g : (⟨0, ![]⟩ : Shape).Idx → EReal) : (⟨2, ![256, 27648]⟩ : Shape).Idx → EReal := fun i =>
  ((∑ b : Fin 320, ∑ j : Fin 8, x (ix3 (i 0) (0 : Fin 1) (evenColumn (column b j)))
        * (((weight (lowCode (w (ix2 (i 1) (column b j)))) : ℝ) : EReal) * s (ix2 (i 1) b)))
    + ∑ b : Fin 320, ∑ j : Fin 8, x (ix3 (i 0) (0 : Fin 1) (oddColumn (column b j)))
        * (((weight (highCode (w (ix2 (i 1) (column b j)))) : ℝ) : EReal) * s (ix2 (i 1) b)))
  * g ix0

end Cert.Hand

end
-- ==== Proof.KernelIdealValue.lean ====
/-
  What the kernel's result array holds, at the ideal values. Each entry of a block of results is a sum over the packed
  columns (`outBlk_apply`); the blocks of the arguments are read at coordinates, and the 27 blocks of results make up
  the whole array, which is `product` of the arguments (`final_main_v6`).
-/
module

public import proofs.«01_k».proof.Proof.KernelIdealRun
public import proofs.«01_k».proof.Proof.Decode
public import proofs.«01_k».proof.Proof.Sums
public import proofs.«01_k».proof.Proof.Product
public import Idealize.ShloMosaic.Lib.MatmulPlain
public import Idealize.ShloMosaic.Lib.Claim
public import Idealize.ShloMosaic.Lib.Pipeline.ValueKit
public import Idealize.ShloMosaic.PureOps.Ideal.Laws

@[expose] public section

set_option maxRecDepth 16384

noncomputable section

namespace Cert.KernelIdeal.Hand

open Cert.KernelIdeal Cert.KernelIdeal.Gen Cert.Hand
open Idealize.ShloMosaic hiding ix0 ix1 ix2 ix3 ix4
open Idealize.ShloMosaic.TcCoe Idealize.ShloMosaic.Tactic Idealize.ShloMosaic.ValueIdx
open Idealize.SL Idealize.SL.Sem
open Idealize.ShloMosaic.Pipeline (Dat Cfg Window)
open scoped BigOperators

/-! ## An entry of a block of results -/

/-- The scale's column of a packed column, over the array's 320 columns and in the block of 384. -/
abbrev scaleColumn (b : Fin 320) : Fin 384 := ⟨b.val, by omega⟩

theorem scaleAt_column (x3 : Vec Ideal S1024x384 .fp8e4m3) (c : Fin 1024) (b : Fin 320) (j : Fin 8) :
    scaleAt (F := Ideal) x3 (ix2 c (column b j)) = x3 (ix2 c (scaleColumn b)) := by
  unfold scaleAt
  refine congrArg x3 (congrArg (ix2 (n0 := 1024) (n1 := 384) c) (Fin.ext ?_))
  show (8 * b.val + j.val) / 8 = b.val
  omega

/-- A weight from the low nibbles: its code's value over 64, times its block's scale. -/
theorem wLow_column (x2 : Vec Ideal S1024x2560 .i8) (x3 : Vec Ideal S1024x384 .fp8e4m3) (c : Fin 1024) (b : Fin 320) (j : Fin 8) :
    wLow (F := Ideal) x2 x3 (ix2 c (column b j))
      = ((weight (lowCode (x2 (ix2 c (column b j)))) / 64 : ℝ) : EReal) * x3 (ix2 c (scaleColumn b)) := by
  show Ideal.e4m3fn (lowByte (x2 (ix2 c (column b j)))) * scaleAt (F := Ideal) x3 (ix2 c (column b j)) = _
  rw [lowByte_eq, placed_value, scaleAt_column]

theorem wHigh_column (x2 : Vec Ideal S1024x2560 .i8) (x3 : Vec Ideal S1024x384 .fp8e4m3) (c : Fin 1024) (b : Fin 320) (j : Fin 8) :
    wHigh (F := Ideal) x2 x3 (ix2 c (column b j))
      = ((weight (highCode (x2 (ix2 c (column b j)))) / 64 : ℝ) : EReal) * x3 (ix2 c (scaleColumn b)) := by
  show Ideal.e4m3fn (highByte (x2 (ix2 c (column b j)))) * scaleAt (F := Ideal) x3 (ix2 c (column b j)) = _
  rw [highByte_eq, placed_value, scaleAt_column]

/-- One product of the block: activations by weights from a zero accumulator, the weights' 1/64 taken out. -/
theorem product_apply (x : Vec Ideal S256x2560 .bf16) (w : Vec Ideal S1024x2560 .bf16) (v : Fin 320 → Fin 8 → ℝ) (s : Fin 320 → EReal)
    (r : Fin 256) (c : Fin 1024) (hw : ∀ b j, w (ix2 c (column b j)) = ((v b j / 64 : ℝ) : EReal) * s b) :
    FloatOps.matmul (F := Ideal) (φ₁ := .bf16) (φ₂ := .bf16) dot_S256x2560_S1024x2560_S256x1024_1_1_0_0_n_n none x w
        (constant (F := Ideal) S256x1024 .f32 0x00000000#32) (ix2 r c)
      = ((1 / 64 : ℝ) : EReal) * ∑ b : Fin 320, ∑ j : Fin 8, x (ix2 r (column b j)) * (((v b j : ℝ) : EReal) * s b) := by
  refine (Ideal.matmul_transposedRhs_apply (M := 256) (K := 2560) (N := 1024) none x w _ r c).trans ?_
  rw [show constant (F := Ideal) S256x1024 .f32 0x00000000#32 (ix2 r c) = 0 from Ideal.ofBits_zero_f32, zero_add, sum_blocks,
    ← mul_sum _ _ (by norm_num)]
  refine Finset.sum_congr rfl fun b _ => ?_
  rw [← mul_sum _ _ (by norm_num)]
  refine Finset.sum_congr rfl fun j _ => ?_
  rw [hw, summand]

/-- An entry of the block of results. -/
theorem outBlk_apply (x0 x1 : Vec Ideal S256x2560 .bf16) (x2 : Vec Ideal S1024x2560 .i8) (x3 : Vec Ideal S1024x384 .fp8e4m3)
    (x4 : Vec Ideal S1x1 .f32) (r : Fin 256) (c : Fin 1024) :
    outBlk (F := Ideal) x0 x1 x2 x3 x4 (ix2 r c)
      = (((∑ b : Fin 320, ∑ j : Fin 8, x0 (ix2 r (column b j))
              * (((weight (lowCode (x2 (ix2 c (column b j)))) : ℝ) : EReal) * x3 (ix2 c (scaleColumn b))))
          + ∑ b : Fin 320, ∑ j : Fin 8, x1 (ix2 r (column b j))
              * (((weight (highCode (x2 (ix2 c (column b j)))) : ℝ) : EReal) * x3 (ix2 c (scaleColumn b))))
        * x4 (ix2 0 0) : EReal) := by
  show (FloatOps.matmul (F := Ideal) (φ₁ := .bf16) (φ₂ := .bf16) dot_S256x2560_S1024x2560_S256x1024_1_1_0_0_n_n none
          (shapeCast S256x2560 x0 shapeCasts_S256x2560_S256x2560) (wLow (F := Ideal) x2 x3) (constant (F := Ideal) S256x1024 .f32 0x00000000#32) (ix2 r c)
        + FloatOps.matmul (F := Ideal) (φ₁ := .bf16) (φ₂ := .bf16) dot_S256x2560_S1024x2560_S256x1024_1_1_0_0_n_n none
          (shapeCast S256x2560 x1 shapeCasts_S256x2560_S256x2560) (wHigh (F := Ideal) x2 x3) (constant (F := Ideal) S256x1024 .f32 0x00000000#32) (ix2 r c))
      * (x4 (ix2 0 0) * Ideal.ieee 8 23 (0x42800000#32)) = _
  rw [shapeCast_self, shapeCast_self,
    product_apply x0 _ _ _ r c (fun b j => wLow_column x2 x3 c b j), product_apply x1 _ _ _ r c (fun b j => wHigh_column x2 x3 c b j),
    sixtyFour, rescale]

/-! ## The arguments' blocks at coordinates -/

variable (m : (ℓ : Loc nD τ sig) → Buf (Elt Ideal) ℓ)

/-- The activations of the even columns, read off the argument. -/
theorem V_main_v2_apply (c : Dev nD) (r : Fin 256) (k : Fin 2560) :
    V m c main_v2 (ix2 r k) = m ((c : Thread nD τ).loc main_arg0) (ix3 r (0 : Fin 1) (evenColumn k)) := by
  have h : V m c main_v2 = shapeCast S256x2560 (extractStridedSlice S256x2560x1 ![0, 0, 0]
      (shapeCast S256x2560x2 (m ((c : Thread nD τ).loc main_arg0)) shapeCasts_S256x1x5120_S256x2560x2) slices_S256x2560x2_S256x2560x1_0_0_0)
      shapeCasts_S256x2560x1_S256x2560 := by
    unfold_abbrev_sides; after_results; rfl
  rw [h]
  refine (shapeCast_apply _ _ (ix2 r k) (ix3 r k (0 : Fin 1)) ?_).trans ?_
  · rw [Shape.rowMajor_val_three, Shape.rowMajor_val_two]
    show (r.val * 2560 + k.val) * 1 + 0 = r.val * 2560 + k.val
    omega
  · refine shapeCast_apply _ _ _ (ix3 r (0 : Fin 1) (evenColumn k)) ?_
    rw [Shape.rowMajor_val_three, Shape.rowMajor_val_three]
    show (r.val * 1 + 0) * 5120 + 2 * k.val = ((0 + r.val) * 2560 + (0 + k.val)) * 2 + (0 + 0)
    omega

/-- The activations of the odd columns. -/
theorem V_main_v4_apply (c : Dev nD) (r : Fin 256) (k : Fin 2560) :
    V m c main_v4 (ix2 r k) = m ((c : Thread nD τ).loc main_arg0) (ix3 r (0 : Fin 1) (oddColumn k)) := by
  have h : V m c main_v4 = shapeCast S256x2560 (extractStridedSlice S256x2560x1 ![0, 0, 1]
      (shapeCast S256x2560x2 (m ((c : Thread nD τ).loc main_arg0)) shapeCasts_S256x1x5120_S256x2560x2) slices_S256x2560x2_S256x2560x1_0_0_1)
      shapeCasts_S256x2560x1_S256x2560 := by
    unfold_abbrev_sides; after_results; rfl
  rw [h]
  refine (shapeCast_apply _ _ (ix2 r k) (ix3 r k (0 : Fin 1)) ?_).trans ?_
  · rw [Shape.rowMajor_val_three, Shape.rowMajor_val_two]
    show (r.val * 2560 + k.val) * 1 + 0 = r.val * 2560 + k.val
    omega
  · refine shapeCast_apply _ _ _ (ix3 r (0 : Fin 1) (oddColumn k)) ?_
    rw [Shape.rowMajor_val_three, Shape.rowMajor_val_three]
    show (r.val * 1 + 0) * 5120 + (2 * k.val + 1) = ((0 + r.val) * 2560 + (0 + k.val)) * 2 + (1 + 0)
    omega

/-- The global scale. -/
theorem V_main_v5_apply (c : Dev nD) (j : S1x1.Idx) : V m c main_v5 j = m ((c : Thread nD τ).loc main_arg3) ix0 := by
  have h : V m c main_v5 = shapeCast S1x1 (m ((c : Thread nD τ).loc main_arg3)) shapeCasts_S_S1x1 := by
    unfold_abbrev_sides; after_results; rfl
  rw [h]
  show m ((c : Thread nD τ).loc main_arg3) _ = _
  exact congrArg _ (funext fun a => a.elim0)

theorem index0 : ∀ t : Fin cfg0.N, win0_0.index t = ![0, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![t.val, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![0, t.val] := (by decide +kernel : ∀ t : Fin grid0.N, _)

/-- Row `c` of point `t`'s block, in the whole array. -/
abbrev row (t : Fin cfg0.N) (c : Fin 1024) : Fin 27648 := ⟨1024 * t.val + c.val, by
  have h : t.val < 27 := t.isLt
  omega⟩

theorem iblk0_apply (c : Dev nD) (t : Fin cfg0.N) (r : Fin 256) (k : Fin 2560) :
    iblk m c 0 t (ix2 r k) = m ((c : Thread nD τ).loc main_arg0) (ix3 r (0 : Fin 1) (evenColumn k)) := by
  refine Eq.trans ?_ (V_main_v2_apply m c r k)
  unfold iblk
  show V m c main_v2 (((cfg0.win 0).blk t).view.emb (ix2 r k)) = _
  refine congrArg _ ?_
  blk_ext [index0]

theorem iblk1_apply (c : Dev nD) (t : Fin cfg0.N) (r : Fin 256) (k : Fin 2560) :
    iblk m c 1 t (ix2 r k) = m ((c : Thread nD τ).loc main_arg0) (ix3 r (0 : Fin 1) (oddColumn k)) := by
  refine Eq.trans ?_ (V_main_v4_apply m c r k)
  unfold iblk
  show V m c main_v4 (((cfg0.win 1).blk t).view.emb (ix2 r k)) = _
  refine congrArg _ ?_
  blk_ext [index1]

theorem iblk2_apply (c : Dev nD) (t : Fin cfg0.N) (r : Fin 1024) (k : Fin 2560) :
    iblk m c 2 t (ix2 r k) = m ((c : Thread nD τ).loc main_arg1) (ix2 (row t r) k) := by
  unfold iblk
  show V m c main_arg1 (((cfg0.win 2).blk t).view.emb (ix2 r k)) = _
  rw [V_main_arg1]
  refine congrArg _ ?_
  blk_ext [index2]
  show t.val * 1024 + r.val = 1024 * t.val + r.val; omega

theorem scales_apply (c : Dev nD) (t : Fin cfg0.N) (r : Fin 1024) (b : Fin 320) :
    scales m c t (ix2 r (scaleColumn b)) = m ((c : Thread nD τ).loc main_arg2) (ix2 (row t r) b) := by
  unfold scales Window.fill
  rw [dif_pos (moved3 t _ b.isLt)]
  unfold iblk
  show V m c main_arg2 (((cfg0.win 3).blk t).view.emb _) = _
  rw [V_main_arg2]
  refine congrArg _ ?_
  blk_ext [index3]
  show t.val * 1024 + r.val = 1024 * t.val + r.val; omega

theorem iblk4_apply (c : Dev nD) (t : Fin cfg0.N) : iblk m c 4 t (ix2 (0 : Fin 1) (0 : Fin 1)) = m ((c : Thread nD τ).loc main_arg3) ix0 := by
  unfold iblk
  exact V_main_v5_apply m c _

/-! ## The result array -/

/-- The kernel's result array is the product of its arguments. -/
theorem final_main_v6 (c : Dev nD) : (dats m 0 c).arrAt 5 cfg0.N
    = product (m ((c : Thread nD τ).loc main_arg0)) (m ((c : Thread nD τ).loc main_arg1)) (m ((c : Thread nD τ).loc main_arg2))
        (m ((c : Thread nD τ).loc main_arg3)) := by
  refine (dats m 0 c).arrAt_eq_of_covers 5 _ (by decide +kernel) fun t hf y => ?_
  obtain ⟨r, o, rfl⟩ : ∃ (r : Fin 256) (o : Fin 1024), y = ix2 r o := ⟨y 0, y 1, ValueIdx.eq_ix2 y⟩
  have he : ((cfg0.win 5).blk t).view.emb (ix2 r o) = ix2 r (row t o) := by
    blk_ext [index5]
    show t.val * 1024 + o.val = 1024 * t.val + o.val; omega
  blk_simp
  refine Eq.trans ?_ (congrArg _ he).symm
  show outAt m c t (ix2 r o) = _
  unfold outAt
  rw [outBlk_apply]
  unfold product
  simp only [iblk0_apply, iblk1_apply, iblk2_apply, scales_apply, iblk4_apply]

/-- The whole run: the result array is the product of the arguments, and the arguments are unchanged. -/
theorem run_product (ρ : Dev nD → PrngReg) : θ_run defs (onTc (τ := τ) (main (F := Ideal))) ⟨m, fun _ => 0, ρ⟩ fun r => ∀ c : Dev nD,
    r.2.mem ((c : Thread nD τ).loc main_v6)
      = product (m ((c : Thread nD τ).loc main_arg0)) (m ((c : Thread nD τ).loc main_arg1)) (m ((c : Thread nD τ).loc main_arg2))
          (m ((c : Thread nD τ).loc main_arg3))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3) :=
  (θ_run defs _ _).mono (fun r h c => ⟨((h.1 c).1 5).trans (final_main_v6 m c), args_of m r h.1 c⟩) (run_main m ρ)

end Cert.KernelIdeal.Hand

end
-- ==== Proof.ReferenceIdealValue.lean ====
/-
  What the reference computes, at the ideal values: its result is the same `product` of the arguments. The decoded
  weights are read at an index first (`low_weight`, `high_weight`), then each contraction over blocks and columns of a
  block as two nested sums (`contraction_apply`).
-/
module

public import proofs.«01_k».proof.Proof.Gen.ReferenceIdeal.Read
public import proofs.«01_k».proof.Proof.Product
public import Idealize.ShloMosaic.Lib.TwoAxisContraction
public import Idealize.ShloMosaic.Lib.Pipeline.ValueKit
public import Idealize.ShloMosaic.PureOps.Ideal.Laws

@[expose] public section

set_option maxRecDepth 16384

noncomputable section

namespace Cert.ReferenceIdeal.Hand

open Cert.ReferenceIdeal Cert.ReferenceIdeal.Gen Cert.ReferenceIdeal.Read Cert.Hand
open Idealize.ShloMosaic hiding ix0 ix1 ix2 ix3 ix4
open Idealize.ShloMosaic.TcCoe Idealize.ShloMosaic.Tactic Idealize.ShloMosaic.ValueIdx
open Idealize.SL Idealize.SL.Sem
open scoped BigOperators

/-! ## The stages at an index -/

/-- The bytes, widened and split into 320 blocks of eight columns. -/
abbrev bytes (w : (⟨S27648x2560, .i8⟩ : BufTy).Contents (Elt Ideal)) : (⟨S27648x320x8, .i32⟩ : BufTy).Contents (Elt Ideal) :=
  extui 32 (shapeCast _ w shapeCasts_S27648x2560_S27648x320x8) natLt_8_32

theorem bytes_apply (w : (⟨S27648x2560, .i8⟩ : BufTy).Contents (Elt Ideal)) (o : Fin 27648) (b : Fin 320) (j : Fin 8) :
    bytes w (ix3 o b j) = (w (ix2 o (column b j))).setWidth 32 := by
  show (shapeCast S27648x320x8 w shapeCasts_S27648x2560_S27648x320x8 (ix3 o b j)).setWidth 32 = _
  refine congrArg _ (shapeCast_apply w _ _ (ix2 o (column b j)) ?_)
  rw [Shape.rowMajor_val_three, Shape.rowMajor_val_two]
  show o.val * 2560 + (8 * b.val + j.val) = (o.val * 320 + b.val) * 8 + j.val
  omega

/-- A decoded weight of a low nibble, as the reference has it: the pattern of its code. -/
theorem val_main_v29_steps (e : (⟨S27648x320x8, .i32⟩ : BufTy).Contents (Elt Ideal)) (i : S27648x320x8.Idx) :
    val_main_v29 (F := Ideal) e i = Ideal.ieee 8 7 (patternSteps (IntOp.andi (e i) 15#32)) := by
  rw [val_main_v29_apply, val_main_v28_apply, val_main_v27_apply, val_main_v26_apply, val_main_v24_apply, val_main_v22_apply,
    val_main_v21_apply, val_main_v19_apply, val_main_v18_apply, val_main_v16_apply, val_main_v14_apply, val_main_v12_apply, val_main_v10_apply]
  simp only [val_main_v9_apply, val_main_v11_apply, val_main_v13_apply, val_main_v15_apply, val_main_v17_apply, val_main_v20_apply,
    val_main_v23_apply, val_main_v25_apply, val_main_call0_v0_apply, val_main_call0_v1_apply, val_main_c_apply, val_main_c_0_apply,
    val_main_c_1_apply, val_main_c_2_apply, val_main_c_3_apply, val_main_c_4_apply, val_main_c_5_apply, val_main_c_6_apply,
    val_main_c_7_apply, val_main_c_8_apply]
  rfl

/-- The same of a high nibble. -/
theorem val_main_v52_steps (e : (⟨S27648x320x8, .i32⟩ : BufTy).Contents (Elt Ideal)) (i : S27648x320x8.Idx) :
    val_main_v52 (F := Ideal) e i = Ideal.ieee 8 7 (patternSteps (IntOp.shrui .host (e i) 4#32)) := by
  rw [val_main_v52_apply, val_main_v51_apply, val_main_v50_apply, val_main_v49_apply, val_main_v47_apply, val_main_v45_apply,
    val_main_v44_apply, val_main_v42_apply, val_main_v41_apply, val_main_v39_apply, val_main_v37_apply, val_main_v35_apply, val_main_v33_apply]
  simp only [val_main_v32_apply, val_main_v34_apply, val_main_v36_apply, val_main_v38_apply, val_main_v40_apply, val_main_v43_apply,
    val_main_v46_apply, val_main_v48_apply, val_main_call2_v0_apply, val_main_call2_v1_apply, val_main_c_9_apply, val_main_c_10_apply,
    val_main_c_11_apply, val_main_c_12_apply, val_main_c_13_apply, val_main_c_14_apply, val_main_c_15_apply, val_main_c_16_apply,
    val_main_c_17_apply, val_main_c_18_apply]
  rfl

variable (x : (⟨S256x1x5120, .bf16⟩ : BufTy).Contents (Elt Ideal)) (w : (⟨S27648x2560, .i8⟩ : BufTy).Contents (Elt Ideal))
  (s : (⟨S27648x320, .bf16⟩ : BufTy).Contents (Elt Ideal)) (g : (⟨S_, .f32⟩ : BufTy).Contents (Elt Ideal))

/-- A scaled weight of a low nibble. -/
theorem low_weight (o : Fin 27648) (b : Fin 320) (j : Fin 8) :
    val_main_v31 (F := Ideal) s (bytes w) (ix3 o b j) = (((weight (lowCode (w (ix2 o (column b j)))) : ℝ) : EReal) * s (ix2 o b) : EReal) := by
  rw [val_main_v31_apply, val_main_v29_steps, bytes_apply, patternSteps_low, pattern_value, val_main_v30_apply, val_main_v3_apply]
  refine congrArg (fun z => (((weight (lowCode (w (ix2 o (column b j)))) : ℝ) : EReal) * s z : EReal)) ?_
  funext a
  match a with
  | ⟨0, _⟩ => rfl
  | ⟨1, _⟩ => rfl

/-- A scaled weight of a high nibble. -/
theorem high_weight (o : Fin 27648) (b : Fin 320) (j : Fin 8) :
    val_main_v54 (F := Ideal) s (bytes w) (ix3 o b j) = (((weight (highCode (w (ix2 o (column b j)))) : ℝ) : EReal) * s (ix2 o b) : EReal) := by
  rw [val_main_v54_apply, val_main_v52_steps, bytes_apply, patternSteps_high, pattern_value, val_main_v53_apply, val_main_v3_apply]
  refine congrArg (fun z => (((weight (highCode (w (ix2 o (column b j)))) : ℝ) : EReal) * s z : EReal)) ?_
  funext a
  match a with
  | ⟨0, _⟩ => rfl
  | ⟨1, _⟩ => rfl

/-- The activations of the even columns, block by block. -/
theorem even_activation (r : Fin 256) (b : Fin 320) (j : Fin 8) :
    val_main_v6 (F := Ideal) x (ix3 r b j) = x (ix3 r (0 : Fin 1) (evenColumn (column b j))) := by
  have h : shapeCast S256x320x8 (extractStridedSlice S256x320x8x1 ![0, 0, 0, 0] (shapeCast S256x320x8x2 x shapeCasts_S256x1x5120_S256x320x8x2)
      slices_S256x320x8x2_S256x320x8x1_0_0_0_0) shapeCasts_S256x320x8x1_S256x320x8 (ix3 r b j) = x (ix3 r (0 : Fin 1) (evenColumn (column b j))) := by
    refine (shapeCast_apply _ _ (ix3 r b j) (ix4 r b j (0 : Fin 1)) ?_).trans ?_
    · rw [Shape.rowMajor_val_four, Shape.rowMajor_val_three]
      show ((r.val * 320 + b.val) * 8 + j.val) * 1 + 0 = (r.val * 320 + b.val) * 8 + j.val
      omega
    · refine shapeCast_apply _ _ _ (ix3 r (0 : Fin 1) (evenColumn (column b j))) ?_
      rw [Shape.rowMajor_val_four, Shape.rowMajor_val_three]
      show (r.val * 1 + 0) * 5120 + 2 * (8 * b.val + j.val) = (((0 + r.val) * 320 + (0 + b.val)) * 8 + (0 + j.val)) * 2 + (0 + 0)
      omega
  exact h

/-- The activations of the odd columns. -/
theorem odd_activation (r : Fin 256) (b : Fin 320) (j : Fin 8) :
    val_main_v8 (F := Ideal) x (ix3 r b j) = x (ix3 r (0 : Fin 1) (oddColumn (column b j))) := by
  have h : shapeCast S256x320x8 (extractStridedSlice S256x320x8x1 ![0, 0, 0, 1] (shapeCast S256x320x8x2 x shapeCasts_S256x1x5120_S256x320x8x2)
      slices_S256x320x8x2_S256x320x8x1_0_0_0_1) shapeCasts_S256x320x8x1_S256x320x8 (ix3 r b j) = x (ix3 r (0 : Fin 1) (oddColumn (column b j))) := by
    refine (shapeCast_apply _ _ (ix3 r b j) (ix4 r b j (0 : Fin 1)) ?_).trans ?_
    · rw [Shape.rowMajor_val_four, Shape.rowMajor_val_three]
      show ((r.val * 320 + b.val) * 8 + j.val) * 1 + 0 = (r.val * 320 + b.val) * 8 + j.val
      omega
    · refine shapeCast_apply _ _ _ (ix3 r (0 : Fin 1) (oddColumn (column b j))) ?_
      rw [Shape.rowMajor_val_four, Shape.rowMajor_val_three]
      show (r.val * 1 + 0) * 5120 + (2 * (8 * b.val + j.val) + 1) = (((0 + r.val) * 320 + (0 + b.val)) * 8 + (0 + j.val)) * 2 + (1 + 0)
      omega
  exact h

/-! ## The contraction -/

/-- The contraction over blocks and columns of a block, at an entry: two nested sums. -/
theorem contraction_apply (A : (⟨S256x320x8, .bf16⟩ : BufTy).Contents (Elt Ideal)) (B : (⟨S27648x320x8, .bf16⟩ : BufTy).Contents (Elt Ideal))
    (r : Fin 256) (o : Fin 27648) :
    Host.dotGeneral (F := Ideal) (φ₁ := .bf16) (φ₂ := .bf16) dot_S256x320x8_S27648x320x8_S256x27648_12_12_0_0_n_n none A B (ix2 r o)
      = (∑ b : Fin 320, ∑ j : Fin 8, A (ix3 r b j) * B (ix3 o b j) : EReal) := by
  let D := dot_S256x320x8_S27648x320x8_S256x27648_12_12_0_0_n_n
  have hr : D.contr.rank = 2 := rfl
  have h0 : D.contr.size ⟨0, by rw [hr]; decide⟩ = 320 := rfl
  have h1 : D.contr.size ⟨1, by rw [hr]; decide⟩ = 8 := rfl
  simp only [Host.dotGeneral]
  rw [Ideal.dotGeneral_apply]
  rw [sum_contr2 D 320 8 hr h0 h1]
  refine Finset.sum_congr rfl fun b _ => Finset.sum_congr rfl fun j _ => ?_
  have e0 := contrEquiv2_symm_val0 D 320 8 hr h0 h1 (b, j)
  have e1 := contrEquiv2_symm_val1 D 320 8 hr h0 h1 (b, j)
  refine congrArg₂ (fun y z => (A y * B z : EReal)) (funext fun a => ?_) (funext fun a => ?_)
  · match a with
    | ⟨0, _⟩ => exact Fin.ext rfl
    | ⟨1, _⟩ => exact Fin.ext e0
    | ⟨2, _⟩ => exact Fin.ext e1
  · match a with
    | ⟨0, _⟩ => exact Fin.ext rfl
    | ⟨1, _⟩ => exact Fin.ext e0
    | ⟨2, _⟩ => exact Fin.ext e1

/-- The reference's result, from the arguments and the scales read as bf16. -/
theorem val_main_v60_product : val_main_v60 (F := Ideal) x g s (bytes w) = product x w s g := by
  funext i
  obtain ⟨r, o, rfl⟩ : ∃ (r : Fin 256) (o : Fin 27648), i = ix2 r o := ⟨i 0, i 1, ValueIdx.eq_ix2 i⟩
  rw [val_main_v60_apply, val_main_v59_apply, val_main_v57_apply, val_main_v58_apply]
  unfold val_main_v55 val_main_v56
  rw [contraction_apply, contraction_apply]
  simp only [low_weight, high_weight, even_activation, odd_activation]
  unfold product
  rw [show idx_main_v58 (ix2 r o) = ix0 from funext fun a => a.elim0]
  rfl

/-! ## The whole run -/

variable (m : (ℓ : Loc nD τ sig) → Buf (Elt Ideal) ℓ)

/-- The one point's blocks are the whole arrays. -/
theorem whole0 : ∀ t : Fin cfg0.N, win0_0.index t = ![0, 0] := (by decide +kernel : ∀ t : Fin grid0.N, _)
theorem whole1 : ∀ t : Fin cfg0.N, win0_1.index t = ![0, 0] := (by decide +kernel : ∀ t : Fin grid0.N, _)

/-- The scales read as bf16 are the scales: a change of format keeps the value. -/
theorem reg_main_v2_eq (c : Dev nD) : Value.reg_main_v2 m c = (m ((c : Thread nD τ).loc main_arg2) : S27648x320.Idx → EReal) := by
  unfold Value.reg_main_v2
  refine (dats m 0 c).arrAt_eq_of_covers 1 _ (by decide +kernel) fun t hf y => ?_
  blk_simp
  rw [after0_1]
  frame_out
  show iblk m c 0 t y = _
  unfold iblk
  show V m c main_arg2 _ = _
  rw [V_main_arg2]
  refine congrArg _ ?_
  blk_ext [whole0, whole1]

/-- The whole run: the result is the product of the arguments, and the arguments are unchanged. -/
theorem run_product (ρ : Dev nD → PrngReg) : θ_run defs (onTc (τ := τ) (main (F := Ideal))) ⟨m, fun _ => 0, ρ⟩ fun r => ∀ c : Dev nD,
    r.2.mem ((c : Thread nD τ).loc main_v60)
      = product (m ((c : Thread nD τ).loc main_arg0)) (m ((c : Thread nD τ).loc main_arg1)) (m ((c : Thread nD τ).loc main_arg2))
          (m ((c : Thread nD τ).loc main_arg3))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3) :=
  (θ_run defs _ _).mono (fun r h c => ⟨((h c).1.trans (val_main_v60_eq (F := Ideal) (Value.exitV m c))).trans (by
      rw [Value.exit_main_arg0, Value.exit_main_arg3, Value.exit_main_v2, Value.exit_main_v1, reg_main_v2_eq]
      exact val_main_v60_product _ _ _ _), (h c).2⟩) (Value.run m ρ)

end Cert.ReferenceIdeal.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Read
public import proofs.«01_k».proof.Proof.Gen.ReferenceIdeal.Run
public import proofs.«01_k».proof.Proof.KernelRun
public import proofs.«01_k».proof.Proof.KernelIdealRun
public import proofs.«01_k».proof.Proof.KernelIdealValue
public import proofs.«01_k».proof.Proof.ReferenceIdealValue
public import Idealize.ShloMosaic.Adequacy
public import Idealize.ShloMosaic.Init

@[expose] public section

noncomputable section

namespace Cert.Proof

open Idealize.ShloMosaic Idealize.ShloMosaic.TcCoe Idealize.SL.Sem

/-- Both programs compute `product` of the arguments, which are the same for both. -/
theorem algebraic : algebraic_KernelIdeal_ReferenceIdeal (hKernelIdeal := Cert.KernelIdeal.Gen.facts)
    (hReferenceIdeal := Cert.ReferenceIdeal.Gen.facts) := by
  intro m g m' g' _ hargs
  refine ⟨_, Cert.KernelIdeal.Hand.run_product m g, ?_⟩
  refine (θ_run _ _ _).mono (fun r h c => ⟨(h c).1.trans ?_, (h c).2⟩) (Cert.ReferenceIdeal.Hand.run_product m' g')
  obtain ⟨h0, h1, h2, h3⟩ := hargs c
  exact (congr (congr (congr (congrArg Cert.Hand.product h0) h1) h2) h3)

theorem claim : Cert.Claim :=
  ⟨Cert.Kernel.Gen.facts, Cert.KernelIdeal.Gen.facts, Cert.ReferenceIdeal.Gen.facts,
    fun m ρ _ => Cert.Kernel.Hand.frame_main m ρ, fun m ρ _ => Cert.KernelIdeal.Hand.frame_main m ρ,
    fun m ρ _ => Cert.ReferenceIdeal.Gen.frame m ρ, trivial, algebraic⟩

end Cert.Proof

end
